-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_above_neg_inf [hPre_bias_above_neg_inf : Cert.Pre_bias_above_neg_inf.Facts] (m : (ℓ : Loc Cert.KernelIdeal.nD Cert.KernelIdeal.τ Cert.KernelIdeal.sig) → Buf (Elt Ideal) ℓ) : Prop :=
  ∀ c : Dev Cert.KernelIdeal.nD,
    (Cert.Pre_bias_above_neg_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_above_neg_inf [hPre_bias_above_neg_inf : Cert.Pre_bias_above_neg_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_above_neg_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_bias_above_neg_inf [hKernelIdeal : Cert.KernelIdeal.Facts] [hPre_bias_above_neg_inf : Cert.Pre_bias_above_neg_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_above_neg_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_bias_above_neg_inf [hReferenceIdeal : Cert.ReferenceIdeal.Facts] [hPre_bias_above_neg_inf : Cert.Pre_bias_above_neg_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_above_neg_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_bias_above_neg_inf [hKernelIdeal : Cert.KernelIdeal.Facts] [hReferenceIdeal : Cert.ReferenceIdeal.Facts] [hPre_bias_above_neg_inf : Cert.Pre_bias_above_neg_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_above_neg_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_bias_above_neg_inf : Cert.Pre_bias_above_neg_inf.Facts),
    quiescent_Kernel (hKernel := hKernel)
    ∧ quiescent_KernelIdeal (hKernelIdeal := hKernelIdeal)
    ∧ quiescent_KernelIdeal_pre_bias_above_neg_inf (hKernelIdeal := hKernelIdeal) (hPre_bias_above_neg_inf := hPre_bias_above_neg_inf)
    ∧ quiescent_ReferenceIdeal (hReferenceIdeal := hReferenceIdeal)
    ∧ quiescent_ReferenceIdeal_pre_bias_above_neg_inf (hReferenceIdeal := hReferenceIdeal) (hPre_bias_above_neg_inf := hPre_bias_above_neg_inf)
    ∧ preserves_Kernel_KernelIdeal
    ∧ algebraic_KernelIdeal_ReferenceIdeal_pre_bias_above_neg_inf (hKernelIdeal := hKernelIdeal) (hReferenceIdeal := hReferenceIdeal) (hPre_bias_above_neg_inf := hPre_bias_above_neg_inf)
-- ==== Pre_bias_above_neg_inf.lean ====
abbrev S1x2048x1024 : Shape := ⟨3, ![1, 2048, 1024]⟩
abbrev S8x1024 : Shape := ⟨2, ![8, 1024]⟩
abbrev S8 : Shape := ⟨1, ![8]⟩
abbrev S8x512x1024 : Shape := ⟨3, ![8, 512, 1024]⟩
abbrev S8x1024x512 : Shape := ⟨3, ![8, 1024, 512]⟩
abbrev S2048x1024 : Shape := ⟨2, ![2048, 1024]⟩
abbrev S1024x2048 : Shape := ⟨2, ![1024, 2048]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S1x2048x1024 .f32) (main_arg1 : FVec F S8x1024 .f32) (main_arg2 : FVec F S8 .f32) (main_arg3 : FVec F S8x512x1024 .f32) (main_arg4 : FVec F S8x512x1024 .f32) (main_arg5 : FVec F S8x1024x512 .f32) (main_arg6 : FVec F S2048x1024 .f32) (main_arg7 : FVec F S2048x1024 .f32) (main_arg8 : FVec F S1024x2048 .f32) : IVec S_ 1 :=
  let main_cst : FVec F S_ .f32 := constant S_ .f32 0xFF800000#32
  let main_v0 : FVec F S8 .f32 := broadcastInDim S8 ![] bcast_S_S8 main_cst
  let main_v1 : IVec S8 1 := cmpf .ogt main_arg2 main_v0
  let main_c : IVec S_ 1 := constantI S_ 1 1#1
  let main_v2 : IVec S_ 1 := (fun x v => Host.reduce IntOp.andi x v reducesTo_S8_S_d0 h_S_) main_v1 main_c
  main_v2
-- ==== Kernel.lean ====
abbrev S1x2048x1024 : Shape := ⟨3, ![1, 2048, 1024]⟩
abbrev S8x1024 : Shape := ⟨2, ![8, 1024]⟩
abbrev S8 : Shape := ⟨1, ![8]⟩
abbrev S8x512x1024 : Shape := ⟨3, ![8, 512, 1024]⟩
abbrev S8x1024x512 : Shape := ⟨3, ![8, 1024, 512]⟩
abbrev S2048x1024 : Shape := ⟨2, ![2048, 1024]⟩
abbrev S1024x2048 : Shape := ⟨2, ![1024, 2048]⟩
abbrev S1024x8 : Shape := ⟨2, ![1024, 8]⟩
abbrev S2048x8 : Shape := ⟨2, ![2048, 8]⟩
abbrev S_ : Shape := ⟨0, ![]⟩
abbrev S1x8 : Shape := ⟨2, ![1, 8]⟩
abbrev S2048 : Shape := ⟨1, ![2048]⟩
abbrev S2048x1 : Shape := ⟨2, ![2048, 1]⟩
abbrev S2048x4 : Shape := ⟨2, ![2048, 4]⟩
abbrev S2048x12 : Shape := ⟨2, ![2048, 12]⟩
abbrev S12x2048 : Shape := ⟨2, ![12, 2048]⟩
abbrev S12x2048x1 : Shape := ⟨3, ![12, 2048, 1]⟩
abbrev S4096x1024 : Shape := ⟨2, ![4096, 1024]⟩
abbrev S6144x1024 : Shape := ⟨2, ![6144, 1024]⟩
abbrev S1024x4x512 : Shape := ⟨3, ![1024, 4, 512]⟩
abbrev S4x1024x512 : Shape := ⟨3, ![4, 1024, 512]⟩
abbrev S12x1024x512 : Shape := ⟨3, ![12, 1024, 512]⟩
abbrev S1x2048x1 : Shape := ⟨3, ![1, 2048, 1]⟩
abbrev S512x1024 : Shape := ⟨2, ![512, 1024]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 36
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S8x1024, .f32⟩
  | .hbm, ⟨2, _⟩ => ⟨S8, .f32⟩
  | .hbm, ⟨3, _⟩ => ⟨S8x512x1024, .f32⟩
  | .hbm, ⟨4, _⟩ => ⟨S8x512x1024, .f32⟩
  | .hbm, ⟨5, _⟩ => ⟨S8x1024x512, .f32⟩
  | .hbm, ⟨6, _⟩ => ⟨S2048x1024, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S1024x8, .f32⟩
  | .hbm, ⟨11, _⟩ => ⟨S2048x8, .f32⟩
  | .hbm, ⟨12, _⟩ => ⟨S2048x8, .f32⟩
  | .hbm, ⟨13, _⟩ => ⟨S2048x8, .f32⟩
  | .hbm, ⟨14, _⟩ => ⟨S_, .f32⟩
  | .hbm, ⟨15, _⟩ => ⟨S2048x8, .f32⟩
  | .hbm, ⟨16, _⟩ => ⟨S2048x8, .f32⟩
  | .hbm, ⟨17, _⟩ => ⟨S_, .f32⟩
  | .hbm, ⟨18, _⟩ => ⟨S2048x8, .f32⟩
  | .hbm, ⟨19, _⟩ => ⟨S2048x8, .f32⟩
  | .hbm, ⟨20, _⟩ => ⟨S1x8, .f32⟩
  | .hbm, ⟨21, _⟩ => ⟨S2048x8, .f32⟩
  | .hbm, ⟨22, _⟩ => ⟨S_, .f32⟩
  | .hbm, ⟨23, _⟩ => ⟨S2048x4, .f32⟩
  | .hbm, ⟨24, _⟩ => ⟨S2048x12, .f32⟩
  | .hbm, ⟨25, _⟩ => ⟨S12x2048, .f32⟩
  | .hbm, ⟨26, _⟩ => ⟨S12x2048x1, .f32⟩
  | .hbm, ⟨27, _⟩ => ⟨S4096x1024, .f32⟩
  | .hbm, ⟨28, _⟩ => ⟨S6144x1024, .f32⟩
  | .hbm, ⟨29, _⟩ => ⟨S4096x1024, .f32⟩
  | .hbm, ⟨30, _⟩ => ⟨S6144x1024, .f32⟩
  | .hbm, ⟨31, _⟩ => ⟨S1024x4x512, .f32⟩
  | .hbm, ⟨32, _⟩ => ⟨S4x1024x512, .f32⟩
  | .hbm, ⟨33, _⟩ => ⟨S12x1024x512, .f32⟩
  | .hbm, ⟨34, _⟩ => ⟨S2048x1024, .f32⟩
  | .hbm, ⟨35, _⟩ => ⟨S1x2048x1024, .f32⟩
  | .local _ .vmem, ⟨0, _⟩ => ⟨S2048x8, .f32⟩
  | .local _ .vmem, ⟨1, _⟩ => ⟨S1x8, .f32⟩
  | .local _ .vmem, ⟨2, _⟩ => ⟨S2048x8, .f32⟩
  | .local _ .vmem, ⟨3, _⟩ => ⟨S2048x1024, .f32⟩
  | .local _ .vmem, ⟨4, _⟩ => ⟨S1x2048x1, .f32⟩
  | .local _ .vmem, ⟨5, _⟩ => ⟨S1x2048x1, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024x512, .f32⟩
  | .local _ .vmem, ⟨11, _⟩ => ⟨S1x1024x512, .f32⟩
  | .local _ .vmem, ⟨12, _⟩ => ⟨S2048x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12

abbrev nD : Nat := 1
abbrev τ : Topo := Topo.v7x

variable {F : FTy → Type} [FloatOps F]

abbrev grid0 : Pipeline.Grid := .none

abbrev stage0_0 : Fin 1 → Memref sig .tc .vmem S2048x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![12], ![false]⟩

def k1_cond1 (i : grid1.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_13 : BitVec 32 := 0#32
  let v20 : BitVec 1 := Scalar.cmpi .ne v19 c0_i32_13
  v20

def k1_cond2 (i : grid1.Coords) : BitVec 1 :=
  let arg0 : BitVec 32 := BitVec.ofNat 32 (i 0).val
  let c0_i32_14 : BitVec 32 := 0#32
  let v21 : BitVec 1 := Scalar.cmpi .sgt arg0 c0_i32_14
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S8x1024 : Shape := ⟨2, ![8, 1024]⟩
abbrev S8 : Shape := ⟨1, ![8]⟩
abbrev S8x512x1024 : Shape := ⟨3, ![8, 512, 1024]⟩
abbrev S8x1024x512 : Shape := ⟨3, ![8, 1024, 512]⟩
abbrev S2048x1024 : Shape := ⟨2, ![2048, 1024]⟩
abbrev S1024x2048 : Shape := ⟨2, ![1024, 2048]⟩
abbrev S1024x8 : Shape := ⟨2, ![1024, 8]⟩
abbrev S2048x8 : Shape := ⟨2, ![2048, 8]⟩
abbrev S_ : Shape := ⟨0, ![]⟩
abbrev S1x8 : Shape := ⟨2, ![1, 8]⟩
abbrev S2048x4x2 : Shape := ⟨3, ![2048, 4, 2]⟩
abbrev S2048x4 : Shape := ⟨2, ![2048, 4]⟩
abbrev S2048x2 : Shape := ⟨2, ![2048, 2]⟩
abbrev S2048x2x1 : Shape := ⟨3, ![2048, 2, 1]⟩
abbrev S1x1x4 : Shape := ⟨3, ![1, 1, 4]⟩
abbrev S2048x2x4 : Shape := ⟨3, ![2048, 2, 4]⟩
abbrev S2048x4x1 : Shape := ⟨3, ![2048, 4, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S1x1x8 : Shape := ⟨3, ![1, 1, 8]⟩
abbrev S2048x2x8 : Shape := ⟨3, ![2048, 2, 8]⟩
abbrev S2048x8x512 : Shape := ⟨3, ![2048, 8, 512]⟩
abbrev S8x1024x2048 : Shape := ⟨3, ![8, 1024, 2048]⟩
abbrev S2048x8x1024 : Shape := ⟨3, ![2048, 8, 1024]⟩
abbrev S2048x2048 : Shape := ⟨2, ![2048, 2048]⟩

abbrev nBuf : Space → Nat
  | .hbm => 127
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S8x1024, .f32⟩
  | .hbm, ⟨2, _⟩ => ⟨S8, .f32⟩
  | .hbm, ⟨3, _⟩ => ⟨S8x512x1024, .f32⟩
  | .hbm, ⟨4, _⟩ => ⟨S8x512x1024, .f32⟩
  | .hbm, ⟨5, _⟩ => ⟨S8x1024x512, .f32⟩
  | .hbm, ⟨6, _⟩ => ⟨S2048x1024, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S1024x8, .f32⟩
  | .hbm, ⟨11, _⟩ => ⟨S2048x8, .f32⟩
  | .hbm, ⟨12, _⟩ => ⟨S2048x8, .f32⟩
  | .hbm, ⟨13, _⟩ => ⟨S2048x8, .f32⟩
  | .hbm, ⟨14, _⟩ => ⟨S_, .f32⟩
  | .hbm, ⟨15, _⟩ => ⟨S2048x8, .f32⟩
  | .hbm, ⟨16, _⟩ => ⟨S2048x8, .f32⟩
  | .hbm, ⟨17, _⟩ => ⟨S_, .f32⟩
  | .hbm, ⟨18, _⟩ => ⟨S2048x8, .f32⟩
  | .hbm, ⟨19, _⟩ => ⟨S2048x8, .f32⟩
  | .hbm, ⟨20, _⟩ => ⟨S1x8, .f32⟩
  | .hbm, ⟨21, _⟩ => ⟨S2048x8, .f32⟩
  | .hbm, ⟨22, _⟩ => ⟨S2048x8, .f32⟩
  | .hbm, ⟨23, _⟩ => ⟨S2048x4x2, .f32⟩
  | .hbm, ⟨24, _⟩ => ⟨S2048x4x2, .f32⟩
  | .hbm, ⟨25, _⟩ => ⟨S2048x4x2, .i32⟩
  | .hbm, ⟨26, _⟩ => ⟨S_, .f32⟩
  | .hbm, ⟨27, _⟩ => ⟨S2048x4, .f32⟩
  | .hbm, ⟨28, _⟩ => ⟨S2048x2, .f32⟩
  | .hbm, ⟨29, _⟩ => ⟨S2048x2, .i32⟩
  | .hbm, ⟨30, _⟩ => ⟨S2048x2x1, .i32⟩
  | .hbm, ⟨31, _⟩ => ⟨S1x1x4, .i32⟩
  | .hbm, ⟨32, _⟩ => ⟨S2048x2x4, .i32⟩
  | .hbm, ⟨33, _⟩ => ⟨S2048x2x4, .i32⟩
  | .hbm, ⟨34, _⟩ => ⟨S2048x2x4, .i1⟩
  | .hbm, ⟨35, _⟩ => ⟨S2048x2x4, .f32⟩
  | .hbm, ⟨36, _⟩ => ⟨S_, .f32⟩
  | .hbm, ⟨37, _⟩ => ⟨S2048x4, .f32⟩
  | .hbm, ⟨38, _⟩ => ⟨S2048x4x1, .f32⟩
  | .hbm, ⟨39, _⟩ => ⟨S2048x4x2, .f32⟩
  | .hbm, ⟨40, _⟩ => ⟨S2048x8, .f32⟩
  | .hbm, ⟨41, _⟩ => ⟨S_, .f32⟩
  | .hbm, ⟨42, _⟩ => ⟨S2048x8, .f32⟩
  | .hbm, ⟨43, _⟩ => ⟨S2048x8, .i1⟩
  | .hbm, ⟨44, _⟩ => ⟨S_, .f32⟩
  | .hbm, ⟨45, _⟩ => ⟨S_, .f32⟩
  | .hbm, ⟨46, _⟩ => ⟨S2048x8, .f32⟩
  | .hbm, ⟨47, _⟩ => ⟨S2048x8, .f32⟩
  | .hbm, ⟨48, _⟩ => ⟨S2048x2, .f32⟩
  | .hbm, ⟨49, _⟩ => ⟨S2048x2, .i32⟩
  | .hbm, ⟨50, _⟩ => ⟨S_, .i32⟩
  | .hbm, ⟨51, _⟩ => ⟨S2048x2, .i32⟩
  | .hbm, ⟨52, _⟩ => ⟨S2048x2, .i1⟩
  | .hbm, ⟨53, _⟩ => ⟨S_, .i32⟩
  | .hbm, ⟨54, _⟩ => ⟨S2048x2, .i32⟩
  | .hbm, ⟨55, _⟩ => ⟨S2048x2, .i32⟩
  | .hbm, ⟨56, _⟩ => ⟨S2048x2, .i32⟩
  | .hbm, ⟨57, _⟩ => ⟨S2048x2x1, .i32⟩
  | .hbm, ⟨58, _⟩ => ⟨S1, .i32⟩
  | .hbm, ⟨59, _⟩ => ⟨S_, .i32⟩
  | .hbm, ⟨60, _⟩ => ⟨S2048x2x1, .i32⟩
  | .hbm, ⟨61, _⟩ => ⟨S2048x2x1, .i1⟩
  | .hbm, ⟨62, _⟩ => ⟨S1x1x1, .i32⟩
  | .hbm, ⟨63, _⟩ => ⟨S2048x2x1, .i32⟩
  | .hbm, ⟨64, _⟩ => ⟨S2048x2x1, .i1⟩
  | .hbm, ⟨65, _⟩ => ⟨S2048x2x1, .i1⟩
  | .hbm, ⟨66, _⟩ => ⟨S_, .i1⟩
  | .hbm, ⟨67, _⟩ => ⟨S2048x2, .i1⟩
  | .hbm, ⟨68, _⟩ => ⟨S2048x2, .f32⟩
  | .hbm, ⟨69, _⟩ => ⟨S_, .f32⟩
  | .hbm, ⟨70, _⟩ => ⟨S2048x2, .f32⟩
  | .hbm, ⟨71, _⟩ => ⟨S2048x2, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S2048x2, .f32⟩
  | .hbm, ⟨79, _⟩ => ⟨S2048x2, .f32⟩
  | .hbm, ⟨80, _⟩ => ⟨S_, .f32⟩
  | .hbm, ⟨81, _⟩ => ⟨S2048x2, .f32⟩
  | .hbm, ⟨82, _⟩ => ⟨S2048x2, .f32⟩
  | .hbm, ⟨83, _⟩ => ⟨S2048x2x1, .i32⟩
  | .hbm, ⟨84, _⟩ => ⟨S1x1x8, .i32⟩
  | .hbm, ⟨85, _⟩ => ⟨S2048x2x8, .i32⟩
  | .hbm, ⟨86, _⟩ => ⟨S2048x2x8, .i32⟩
  | .hbm, ⟨87, _⟩ => ⟨S2048x2x8, .i1⟩
  | .hbm, ⟨88, _⟩ => ⟨S2048x2x8, .f32⟩
  | .hbm, ⟨89, _⟩ => ⟨S2048x2x1, .f32⟩
  | .hbm, ⟨90, _⟩ => ⟨S2048x2x8, .f32⟩
  | .hbm, ⟨91, _⟩ => ⟨S2048x2x8, .f32⟩
  | .hbm, ⟨92, _⟩ => ⟨S_, .f32⟩
  | .hbm, ⟨93, _⟩ => ⟨S2048x8, .f32⟩
  | .hbm, ⟨94, _⟩ => ⟨S2048x8x512, .f32⟩
  | .hbm, ⟨95, _⟩ => ⟨S2048x8x512, .f32⟩
  | .hbm, ⟨96, _⟩ => ⟨S2048x8x512, .f32⟩
  | .hbm, ⟨97, _⟩ => ⟨S2048x8x512, .f32⟩
  | .hbm, ⟨98, _⟩ => ⟨S_, .f32⟩
  | .hbm, ⟨99, _⟩ => ⟨S2048x8x512, .f32⟩
  | .hbm, ⟨100, _⟩ => ⟨S2048x8x512, .f32⟩
  | .hbm, ⟨101, _⟩ => ⟨S_, .f32⟩
  | .hbm, ⟨102, _⟩ => ⟨S2048x8x512, .f32⟩
  | .hbm, ⟨103, _⟩ => ⟨S2048x8x512, .f32⟩
  | .hbm, ⟨104, _⟩ => ⟨S2048x8x512, .f32⟩
  | .hbm, ⟨105, _⟩ => ⟨S2048x8x512, .f32⟩
  | .hbm, ⟨106, _⟩ => ⟨S8x1024x2048, .f32⟩
  | .hbm, ⟨107, _⟩ => ⟨S2048x8x1024, .f32⟩
  | .hbm, ⟨108, _⟩ => ⟨S2048x1024, .f32⟩
  | .hbm, ⟨109, _⟩ => ⟨S1024x2048, .f32⟩
  | .hbm, ⟨110, _⟩ => ⟨S2048x2048, .f32⟩
  | .hbm, ⟨111, _⟩ => ⟨S2048x2048, .f32⟩
  | .hbm, ⟨112, _⟩ => ⟨S2048x2048, .f32⟩
  | .hbm, ⟨113, _⟩ => ⟨S_, .f32⟩
  | .hbm, ⟨114, _⟩ => ⟨S2048x2048, .f32⟩
  | .hbm, ⟨115, _⟩ => ⟨S2048x2048, .f32⟩
  | .hbm, ⟨116, _⟩ => ⟨S_, .f32⟩
  | .hbm, ⟨117, _⟩ => ⟨S2048x2048, .f32⟩
  | .hbm, ⟨118, _⟩ => ⟨S2048x2048, .f32⟩
  | .hbm, ⟨119, _⟩ => ⟨S2048x2048, .f32⟩
  | .hbm, ⟨120, _⟩ => ⟨S1024x2048, .f32⟩
  | .hbm, ⟨121, _⟩ => ⟨S2048x2048, .f32⟩
  | .hbm, ⟨122, _⟩ => ⟨S2048x2048, .f32⟩
  | .hbm, ⟨123, _⟩ => ⟨S2048x1024, .f32⟩
  | .hbm, ⟨124, _⟩ => ⟨S2048x1024, .f32⟩
  | .hbm, ⟨125, _⟩ => ⟨S2048x1024, .f32⟩
  | .hbm, ⟨126, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_values : Ref sig .tc := ⟨.hbm, 24, rfl⟩
abbrev main_indices : Ref sig .tc := ⟨.hbm, 25, rfl⟩
abbrev main_cst_1 : Ref sig .tc := ⟨.hbm, 26, rfl⟩
abbrev main_v13 : Ref sig .tc := ⟨.hbm, 27, rfl⟩
abbrev main_values_2 : Ref sig .tc := ⟨.hbm, 28, rfl⟩
abbrev main_indices_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_v19 : Ref sig .tc := ⟨.hbm, 42, rfl⟩
abbrev main_v20 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v21 : Ref sig .tc := ⟨.hbm, 47, rfl⟩
abbrev main_values_7 : Ref sig .tc := ⟨.hbm, 48, rfl⟩
abbrev main_indices_8 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v22 : Ref sig .tc := ⟨.hbm, 71, rfl⟩
abbrev main_cst_9 : Ref sig .tc := ⟨.hbm, 72, rfl⟩
abbrev main_v23 : Ref sig .tc := ⟨.hbm, 73, rfl⟩
abbrev main_v24 : Ref sig .tc := ⟨.hbm, 74, rfl⟩
abbrev main_cst_10 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_11 : Ref sig .tc := ⟨.hbm, 80, rfl⟩
abbrev main_v29 : Ref sig .tc := ⟨.hbm, 81, rfl⟩
abbrev main_v30 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_call4_v0 : Ref sig .tc := ⟨.hbm, 96, rfl⟩
abbrev main_call4_v1 : Ref sig .tc := ⟨.hbm, 97, rfl⟩
abbrev main_call4_cst : Ref sig .tc := ⟨.hbm, 98, rfl⟩
abbrev main_call4_v2 : Ref sig .tc := ⟨.hbm, 99, rfl⟩
abbrev main_call4_v3 : Ref sig .tc := ⟨.hbm, 100, rfl⟩
abbrev main_call4_cst_0 : Ref sig .tc := ⟨.hbm, 101, rfl⟩
abbrev main_call4_v4 : Ref sig .tc := ⟨.hbm, 102, rfl⟩
abbrev main_call4_v5 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_call5_v0 : Ref sig .tc := ⟨.hbm, 111, rfl⟩
abbrev main_call5_v1 : Ref sig .tc := ⟨.hbm, 112, rfl⟩
abbrev main_call5_cst : Ref sig .tc := ⟨.hbm, 113, rfl⟩
abbrev main_call5_v2 : Ref sig .tc := ⟨.hbm, 114, rfl⟩
abbrev main_call5_v3 : Ref sig .tc := ⟨.hbm, 115, rfl⟩
abbrev main_call5_cst_0 : Ref sig .tc := ⟨.hbm, 116, rfl⟩
abbrev main_call5_v4 : Ref sig .tc := ⟨.hbm, 117, rfl⟩
abbrev main_call5_v5 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩

abbrev nD : Nat := 1
abbrev τ : Topo := Topo.v7x

variable {F : FTy → Type} [FloatOps F]
-- ==== Proof.KernelIdealBody.lean ====
/-
  The two kernels of the program, each over whole staging buffers: what one call of the router leaves in its result's
  buffer as a function of the two blocks it reads (`routerOut`, `router_triple`), and what one call of the
  feed-forward kernel leaves at the first grid point (`ffn_triple_first`) and at a later one (`ffn_triple_next`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A load of a whole buffer through the rectangle of all of it reads the buffer's contents. -/
theorem readAt_whole {S : Shape} (M : Memref sig .tc .vmem S .f32) (f : M.view.ty.Contents (Elt F)) {off : Fin S.rank → Nat}
    (inb : ∀ a, off a + S.size a ≤ S.size a) (h : ∀ a, off a = 0) :
    M.view.readAt (Elt F) (Rect.unit off S.size inb).toLoadRect f = M.view.read (Elt F) f :=
  View.ld_unit_lit inb (M.view.read (Elt F) f) h

/-! ## The router -/

/-- The column number of every entry of a `2048 × 8` array. -/
def cols : IVec S2048x8 32 := iota .tc S2048x8 32 [1] iota_S2048x8_d1_w32

/-- The number of the best group of each row. -/
def best1 (x0 : Vec F S2048x8 .f32) (x1 : Vec F S1x8 .f32) : IVec S2048x8 32 :=
  k0_pay10 (k0_pay3 x0 x1) k0_pay4 (k0_pay5 x0 x1) k0_pay6 (Scalar.ofBits .f32 0x00000000#32)

/-- The number of the second best group of each row. -/
def best2 (x0 : Vec F S2048x8 .f32) (x1 : Vec F S1x8 .f32) : IVec S2048x1 32 :=
  k0_pay9 (k0_pay3 x0 x1) k0_pay4 (k0_pay5 x0 x1) k0_pay6 (Scalar.ofBits .f32 0x00000000#32)

/-- What the router stores, from the scores `x0` and the bias `x1`. -/
def routerOut (x0 : Vec F S2048x8 .f32) (x1 : Vec F S1x8 .f32) : Vec F S2048x8 .f32 :=
  k0_pay1 (k0_pay14 (k0_pay3 x0 x1) cols k0_pay4 (best2 x0 x1) (best1 x0 x1))
    (k0_pay16 (k0_pay2 x0) (k0_pay3 x0 x1) cols k0_pay4 (best2 x0 x1) (best1 x0 x1))
    (k0_pay17 (k0_pay2 x0) (k0_pay3 x0 x1) cols k0_pay4 (best2 x0 x1) (best1 x0 x1))
    (k0_pay18 (k0_pay2 x0) (k0_pay3 x0 x1) cols k0_pay4 (best2 x0 x1) (best1 x0 x1))
    (Scalar.ofBits .f32 0x00000000#32)

abbrev rA : Rect S2048x8 := Rect.unit (s := S2048x8) ![0, 0] S2048x8.size inb_S2048x8_S2048x8_0_0
abbrev rB : Rect S1x8 := Rect.unit (s := S1x8) ![0, 0] S1x8.size inb_S1x8_S1x8_0_0

theorem cover_router (p0 : Vec F S2048x8 .f32) (y : S2048x8.Idx) :
    ∃ pc ∈ ([⟨rA, p0⟩] : List (View.Piece (Elt F) S2048x8 .f32)), y ∈ pc.1.set :=
  View.cover_of_tiled [⟨rA, p0⟩] S2048x8.size (by rfl) y

set_option maxHeartbeats 2000000 in
/-- The router on whole buffers: the scores and the bias are kept, the result's buffer ends at `routerOut` of them. -/
theorem router_triple (c : Dev nD) (E : Set ℕ) (arg0 : Memref sig .tc .vmem S2048x8 .f32) (harg0 : arg0.IsWhole) (arg1 : Memref sig .tc .vmem S1x8 .f32) (harg1 : arg1.IsWhole) (arg2 : Memref sig .tc .vmem S2048x8 .f32) (harg2 : arg2.IsWhole)
    (x0 : Vec F S2048x8 .f32) (x1 : Vec F S1x8 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (routerOut x0 x1)) -∗ K ⟨⟩))
      ⊢ wp frame (wpE (defs₀ (F := F)) Variants.none c none) E (cc0__router_kernel arg0 harg0 arg1 harg1 arg2 harg2) K := by
  simp only [cc0__router_kernel_eq_skeleton]; unfold cc0__router_kernel_skel
  simp only [k0_part1_eq_skeleton, k0_part2_eq_skeleton, k0_part3_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_router _)).trans ?_
  refine (View.canon_cons_unit_lit _ _ _ (by decide)).trans ?_
  rw [← readAt_whole arg0 f0 (off := ![0, 0]) inb_S2048x8_S2048x8_0_0 (by decide), ← readAt_whole arg1 f1 (off := ![0, 0]) inb_S1x8_S1x8_0_0 (by decide)]
  rfl

/-! ## The feed-forward kernel -/

abbrev rX : Rect S2048x1024 := Rect.unit (s := S2048x1024) ![0, 0] S2048x1024.size inb_S2048x1024_S2048x1024_0_0

theorem cover_ffn (p0 : Vec F S2048x1024 .f32) (y : S2048x1024.Idx) :
    ∃ pc ∈ ([⟨rX, p0⟩] : List (View.Piece (Elt F) S2048x1024 .f32)), y ∈ pc.1.set :=
  View.cover_of_tiled [⟨rX, p0⟩] S2048x1024.size (by rfl) y

/-- The body takes its first branch at the first grid point only. -/
theorem first_iff : ∀ t : Fin cfg1.N, k1_cond1 (grid1.coords t) = 1#1 ↔ t.val = 0 :=
  (by decide +kernel : ∀ t : Fin grid1.N, k1_cond1 (grid1.coords t) = 1#1 ↔ t.val = 0)
/-- The body takes its second branch at every later grid point. -/
theorem next_iff : ∀ t : Fin cfg1.N, k1_cond2 (grid1.coords t) = 1#1 ↔ 1 ≤ t.val :=
  (by decide +kernel : ∀ t : Fin grid1.N, k1_cond2 (grid1.coords t) = 1#1 ↔ 1 ≤ t.val)

set_option maxHeartbeats 2000000 in
/-- The feed-forward kernel at the first grid point: the result's buffer, whatever it held, ends at this point's part. -/
theorem ffn_triple_first (c : Dev nD) (E : Set ℕ) (i : grid1.Coords) (arg1 : Memref sig .tc .vmem S2048x1024 .f32) (harg1 : arg1.IsWhole) (arg2 : Memref sig .tc .vmem S1x2048x1 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024x512 .f32) (harg5 : arg5.IsWhole) (arg6 : Memref sig .tc .vmem S2048x1024 .f32) (harg6 : arg6.IsWhole)
    (hc0 : k1_cond1 i = 1#1) (hc1 : ¬ k1_cond2 i = 1#1)
    (x0 : Vec F S2048x1024 .f32) (x1 : Vec F S1x2048x1 .f32) (x2 : Vec F S512x1024 .f32) (x3 : Vec F S512x1024 .f32) (x4 : Vec F S1x1024x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay1 x0 x2 x3 x4 x1)) -∗ K ⟨⟩))
      ⊢ wp frame (wpE (defs₀ (F := F)) Variants.none c none) E (cc1__ffn_kernel i arg1 harg1 arg2 harg2 arg3 harg3 arg4 harg4 arg5 harg5 arg6 harg6) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover_ffn _)).trans ?_
  refine (View.canon_cons_unit_lit _ _ _ (by decide)).trans ?_
  rw [readAt_whole arg1 f0 _ (by decide), readAt_whole arg2 f1 _ (by decide), readAt_whole arg3 f2 _ (by decide), readAt_whole arg4 f3 _ (by decide), readAt_whole arg5 f4 _ (by decide)]

set_option maxHeartbeats 2000000 in
/-- The feed-forward kernel at a later grid point: this point's part is added to what the result's buffer held. -/
theorem ffn_triple_next (c : Dev nD) (E : Set ℕ) (i : grid1.Coords) (arg1 : Memref sig .tc .vmem S2048x1024 .f32) (harg1 : arg1.IsWhole) (arg2 : Memref sig .tc .vmem S1x2048x1 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024x512 .f32) (harg5 : arg5.IsWhole) (arg6 : Memref sig .tc .vmem S2048x1024 .f32) (harg6 : arg6.IsWhole)
    (hc0 : ¬ k1_cond1 i = 1#1) (hc1 : k1_cond2 i = 1#1)
    (x0 : Vec F S2048x1024 .f32) (x1 : Vec F S1x2048x1 .f32) (x2 : Vec F S512x1024 .f32) (x3 : Vec F S512x1024 .f32) (x4 : Vec F S1x1024x512 .f32) (xo : Vec F S2048x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k1_pay2 x0 x2 x3 x4 x1 xo)) -∗ K ⟨⟩))
      ⊢ wp frame (wpE (defs₀ (F := F)) Variants.none c none) E (cc1__ffn_kernel i arg1 harg1 arg2 harg2 arg3 harg3 arg4 harg4 arg5 harg5 arg6 harg6) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0 hf1 hf2 hf3 hf4 hf5
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover_ffn _)).trans ?_
  refine (View.canon_cons_unit_lit _ _ _ (by decide)).trans ?_
  rw [readAt_whole arg1 f0 _ (by decide), readAt_whole arg2 f1 _ (by decide), readAt_whole arg3 f2 _ (by decide), readAt_whole arg4 f3 _ (by decide), readAt_whole arg5 f4 _ (by decide), readAt_whole arg6 f5 _ (by decide)]

end Cert.KernelIdeal.Run

end
-- ==== Proof.KernelIdealRun.lean ====
/-
  The run of the whole program: the proof data of its two pipelines entered from any contents (`dat0`, `dat1`), the
  body obligations, the two regions' records, and the theorem `run`: every run ends, with every argument as launched,
  the result array at the last valuation's contents and every semaphore counter at zero.
-/
module

public import proofs.«01_k».proof.Proof.KernelIdealBody
public import proofs.«01_k».proof.Proof.Gen.KernelIdeal.Regions
public import Idealize.ShloMosaic.Lib.Pipeline.RegionsLoop
public import Idealize.ShloMosaic.Lib.Pipeline.FrameTail

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The proof data, from any entry contents -/

section Data

variable (V : (c : Dev nD) → (b : Ref sig .tc) → Buf (Elt F) ((c : Thread nD τ).loc b))

/-- Window `w`'s block of the router at its one point, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of the feed-forward kernel at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the result's buffer holds after the first `n + 1` grid points of the feed-forward kernel: the parts added up in
    the points' order. -/
def ffnAt (c : Dev nD) : (n : ℕ) → n < cfg1.N → Vec F S2048x1024 .f32
  | 0, h => k1_pay1 (blk1 V c 0 ⟨0, h⟩) (blk1 V c 2 ⟨0, h⟩) (blk1 V c 3 ⟨0, h⟩) (blk1 V c 4 ⟨0, h⟩) (blk1 V c 1 ⟨0, h⟩)
  | n + 1, h => k1_pay2 (blk1 V c 0 ⟨n + 1, h⟩) (blk1 V c 2 ⟨n + 1, h⟩) (blk1 V c 3 ⟨n + 1, h⟩) (blk1 V c 4 ⟨n + 1, h⟩) (blk1 V c 1 ⟨n + 1, h⟩)
      (ffnAt c n (Nat.lt_of_succ_lt h))

theorem ffnAt_zero (c : Dev nD) (t : Fin cfg1.N) (h : t.val = 0) :
    ffnAt V c t.val t.isLt = k1_pay1 (blk1 V c 0 t) (blk1 V c 2 t) (blk1 V c 3 t) (blk1 V c 4 t) (blk1 V c 1 t) := by
  obtain ⟨n, hn⟩ := t
  cases n with
  | zero => rfl
  | succ n => exact absurd h (Nat.succ_ne_zero n)

theorem ffnAt_next (c : Dev nD) (t : Fin cfg1.N) (h : 1 ≤ t.val) :
    ffnAt V c t.val t.isLt = k1_pay2 (blk1 V c 0 t) (blk1 V c 2 t) (blk1 V c 3 t) (blk1 V c 4 t) (blk1 V c 1 t)
      (ffnAt V c (t.val - 1) (Nat.lt_of_le_of_lt (Nat.sub_le _ _) t.isLt)) := by
  obtain ⟨n, hn⟩ := t
  cases n with
  | zero => exact absurd h (by simp)
  | succ n => rfl

/-- The router's proof data: its arrays at `V`, each input's buffer at its block, the result's at `routerOut`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => routerOut (blk0 V c 0 t) (blk0 V c 1 t)
  Φ _ := Pipeline.scopedRest spec0 c
  q _ := fullShare
  owed _ := 0

/-- The feed-forward kernel's proof data: its arrays at `V`, each input's buffer at its block, the result's at `ffnAt`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => ffnAt V c t.val t.isLt
  Φ _ := Pipeline.scopedRest spec1 c
  q _ := fullShare
  owed _ := 0

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = routerOut (blk0 V c 0 t) (blk0 V c 1 t) := by dsimp only [dat0]
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0 dat0; rfl) t d).trans
    (by unfold Dat.fetched Dat.blockOf blk0 dat0; rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0 dat0; rfl) t d).trans
    (by unfold Dat.fetched Dat.blockOf blk0 dat0; rfl)
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = ffnAt V c t.val t.isLt := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1 dat1; rfl) t d).trans
    (by unfold Dat.fetched Dat.blockOf blk1 dat1; rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1 dat1; rfl) t d).trans
    (by unfold Dat.fetched Dat.blockOf blk1 dat1; rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1 dat1; rfl) t d).trans
    (by unfold Dat.fetched Dat.blockOf blk1 dat1; rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1 dat1; rfl) t d).trans
    (by unfold Dat.fetched Dat.blockOf blk1 dat1; rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1 dat1; rfl) t d).trans
    (by unfold Dat.fetched Dat.blockOf blk1 dat1; rfl)

/-- The result window of the feed-forward kernel is written at every point. -/
theorem live5 : ∀ t : Fin cfg1.N, cfg1.idle 5 (cfg1.grid.coords t) = false :=
  (by decide +kernel : ∀ t : Fin grid1.N, cfg1.idle 5 (grid1.coords t) = false)

/-- Whether nothing was stored into the result's buffer before position `n`: at the start and after the last point. -/
def freshTab : ℕ → Bool
  | 0 => true
  | n + 1 => (0x800 : ℕ).testBit n
theorem freshTab_step : ∀ t : Fin cfg1.N,
    freshTab (t.val + 1) = ((cfg1.win 5).flush t || (cfg1.idle 5 (cfg1.grid.coords t) && freshTab t.val)) := by decide +kernel
theorem not_fresh : ∀ t : Fin cfg1.N, 1 ≤ t.val → cfg1.fresh 5 t.val = false := by
  intro t
  rw [Pipeline.Cfg.fresh_tab cfg1 5 freshTab rfl freshTab_step t.val (Nat.le_of_lt t.isLt)]
  revert t; decide +kernel

/-- At a later point the result's buffer holds what the point before left. -/
theorem before1_5 (c : Dev nD) (t : Fin cfg1.N) (h : 1 ≤ t.val) (d) :
    (dat1 V c).before 5 t d = ffnAt V c (t.val - 1) (Nat.lt_of_le_of_lt (Nat.sub_le _ _) t.isLt) := by
  rw [Dat.before_out_traj _ 5 rfl (fun _ _ => rfl) (fun t _ hi _ => by rw [live5 t] at hi; exact absurd hi Bool.false_ne_true) t.val t rfl d,
    if_neg (by rw [not_fresh t h]; exact Bool.false_ne_true)]
  dsimp only [dat1]

/-! ## The body obligations -/

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- The router's body at its point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (router_triple c Set.univ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row0 (t : Fin cfg0.N) : defs₀ (F := F) .tc cfg0.body (cfg0.bodyArgs t (cfg0.slots t)) = bodyAt0 t := by
  unfold defs₀; rw [Defs.onTc_tc]

/-- The router's obligation at every point. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

set_option maxHeartbeats 1600000 in
/-- The feed-forward kernel's body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [show cfg1.idle 0 (cfg1.grid.coords t) = false from rfl], after1_0]
  rw [show (dat1 V c).leavesExact 1 t = owns (c : Thread nD τ) (st1_1 t) fullShare ((dat1 V c).after 1 t) from by
    unfold Dat.leavesExact; rw [show cfg1.idle 1 (cfg1.grid.coords t) = false from rfl], after1_1]
  rw [show (dat1 V c).leavesExact 2 t = owns (c : Thread nD τ) (st1_2 t) fullShare ((dat1 V c).after 2 t) from by
    unfold Dat.leavesExact; rw [show cfg1.idle 2 (cfg1.grid.coords t) = false from rfl], after1_2]
  rw [show (dat1 V c).leavesExact 3 t = owns (c : Thread nD τ) (st1_3 t) fullShare ((dat1 V c).after 3 t) from by
    unfold Dat.leavesExact; rw [show cfg1.idle 3 (cfg1.grid.coords t) = false from rfl], after1_3]
  rw [show (dat1 V c).leavesExact 4 t = owns (c : Thread nD τ) (st1_4 t) fullShare ((dat1 V c).after 4 t) from by
    unfold Dat.leavesExact; rw [show cfg1.idle 4 (cfg1.grid.coords t) = false from rfl], after1_4]
  rw [show (dat1 V c).leavesExact 5 t = owns (c : Thread nD τ) (st1_5 t) fullShare ((dat1 V c).after 5 t) from by
    unfold Dat.leavesExact; rw [show cfg1.idle 5 (cfg1.grid.coords t) = false from live5 t], after1_5]
  by_cases h : t.val = 0
  · rw [ffnAt_zero V c t h]
    iintro ⟨HΦ, Ho, ⟨%d0, H0⟩, ⟨%d1, H1⟩, ⟨%d2, H2⟩, ⟨%d3, H3⟩, ⟨%d4, H4⟩, ⟨%d5, H5⟩⟩
    iapply (ffn_triple_first c Set.univ (grid1.coords t) _ _ _ _ _ _ _ _ _ _ _ _ ((first_iff t).mpr h) (fun h' => absurd ((next_iff t).mp h') (by omega)) (blk1 V c 0 t) (blk1 V c 1 t) (blk1 V c 2 t) (blk1 V c 3 t) (blk1 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h1 : 1 ≤ t.val := by omega
    rw [ffnAt_next V c t h1]
    simp only [before1_5 V c t h1]
    iintro ⟨HΦ, Ho, ⟨%d0, H0⟩, ⟨%d1, H1⟩, ⟨%d2, H2⟩, ⟨%d3, H3⟩, ⟨%d4, H4⟩, ⟨%d5, H5⟩⟩
    iapply (ffn_triple_next c Set.univ (grid1.coords t) _ _ _ _ _ _ _ _ _ _ _ _ (fun h' => h ((first_iff t).mp h')) ((next_iff t).mpr h1) (blk1 V c 0 t) (blk1 V c 1 t) (blk1 V c 2 t) (blk1 V c 3 t) (blk1 V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem row1 (t : Fin cfg1.N) : defs₀ (F := F) .tc cfg1.body (cfg1.bodyArgs t (cfg1.slots t)) = bodyAt1 t := by
  unfold defs₀; rw [Defs.onTc_tc]

/-- The feed-forward kernel's obligation at every point. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Data

/-! ## The contents between the items -/

variable (m : (ℓ : Loc nD τ sig) → Buf (Elt F) ℓ)

/-- The buffers as the router finds them. -/
def E0 (c : Dev nD) (b : Ref sig .tc) : Buf (Elt F) ((c : Thread nD τ).loc b) := V1 m c (Proc.devRef .tc b)

/-- What the router leaves, as the unknowns of the valuations. -/
def outsA : Outs (F := F) := fun _ r c => Pipeline.afterRegion (dat0 (E0 m) c) (V1 m c) (Proc.devRef .tc r)

/-- The buffers as the feed-forward kernel finds them. -/
def E1 (c : Dev nD) (b : Ref sig .tc) : Buf (Elt F) ((c : Thread nD τ).loc b) := V3 m (outsA m) c (Proc.devRef .tc b)

/-- What the two kernels leave. -/
def outs : Outs (F := F)
  | 2, r, c => outsA m 2 r c
  | _, r, c => Pipeline.afterRegion (dat1 (E1 m) c) (V3 m (outsA m) c) (Proc.devRef .tc r)

theorem V3_outs (c : Dev nD) : V3 m (outs m) c = V3 m (outsA m) c := rfl

theorem outs_router (c : Dev nD) : outs m 2 main_v10 c = (dat0 (E0 m) c).arrAt 2 cfg0.N :=
  Pipeline.afterRegion_arr (dat0 (E0 m) c) (V1 m c) launch0.win.arr_inj 2

theorem outs_ffn (c : Dev nD) : outs m 4 main_v22 c = (dat1 (E1 m) c).arrAt 5 cfg1.N :=
  Pipeline.afterRegion_arr (dat1 (E1 m) c) (V3 m (outsA m) c) launch1.win.arr_inj 5

theorem V2_self (c : Dev nD) : V2 m (outs m) c (Proc.devRef .tc main_v10) = outs m 2 main_v10 c := by
  simp only [V2, Function.update_self]
theorem V4_self (c : Dev nD) : V4 m (outs m) c (Proc.devRef .tc main_v22) = outs m 4 main_v22 c := by
  simp only [V4, Function.update_self]

/-- The two pipelines' proof data. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

/-- No semaphore is given a level, and no core owes anything. -/
abbrev L : GSem nD τ sig → Finset Unit := fun _ => ∅
abbrev lv : GSem nD τ sig → Unit → ℕ := fun _ _ => 0

/-- What rides beside the buffers: the core owes nothing. -/
def Rest (c : Dev nD) : sProp 𝕄 := iprop(∃ W, owes (c : Thread nD τ) (0 : CellTallies nD τ sig Unit) W)

/-! ## The regions' records -/

-- the record's fields are stated at the pinned configuration, which unifies with the printed one only by unfolding
set_option backward.isDefEq.respectTransparency.types false in
set_option maxHeartbeats 1600000 in
/-- Region 0, entered with every buffer at its contents before it and left with `main_v10` at what the pipeline wrote. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ L lv 0 fun _ _ => rfl
  pre c := iprop(StableHlo.held (c : Thread nD τ) (Pipeline.ucRefs τ sig) (V1 m c) ∗ Rest c)
  post c := iprop(StableHlo.held (c : Thread nD τ) (Pipeline.ucRefs τ sig) (V2 m (outs m) c) ∗ Rest c)
  X _ := BI.emp
  Y _ := BI.emp
  Z c := Pipeline.unscopedRest (Ix := Unit) (Name := ℕ) (U := UR sig nD τ) (Lvl := ℕ) spec0 c (E0 m c)
  hentry c := by
    rw [Pipeline.ownSems0_none,
      show StableHlo.held (c : Thread nD τ) (Pipeline.ucRefs τ sig) (V1 m c) = unscopedBufs c (E0 m c)
        from (Pipeline.unscopedBufs_held (Ix := Unit) (Name := ℕ) (U := UR sig nD τ) (Lvl := ℕ) c (V1 m c)).symm]
    have hsplit := Pipeline.arrays_of_unscopedBufs (p := 0) (pcfgs (F := F)) adm (pdats m) launch0.win launch0.arr_whole c
      ((pdats m 0 c).share_full fun _ => rfl) (E0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Rest
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (E0 m c) (fun b => V2 m (outs m) c (Proc.devRef .tc b)) ((pdats m 0 c).arrAt · cfg0.N)
      (fun w => by
        fin_cases w
        · exact ((pdats m 0 c).arrAt_in 0 rfl _).trans (V2_of m (outs m) c main_v8 (by decide)).symm
        · exact ((pdats m 0 c).arrAt_in 1 rfl _).trans (V2_of m (outs m) c main_v9 (by decide)).symm
        · exact (outs_router m c).symm.trans (V2_self m c).symm)
      (fun b hb => V2_of m (outs m) c b (List.not_mem_cons_of_ne_of_not_mem (fun h => hb (h ▸ Finset.mem_image.mpr ⟨2, Finset.mem_univ _, rfl⟩)) List.not_mem_nil))
    rw [show StableHlo.held (c : Thread nD τ) (Pipeline.ucRefs τ sig) (V2 m (outs m) c) = unscopedBufs c (fun b => V2 m (outs m) c (Proc.devRef .tc b))
        from (Pipeline.unscopedBufs_held (Ix := Unit) (Name := ℕ) (U := UR sig nD τ) (Lvl := ℕ) c (V2 m (outs m) c)).symm]
    iintro ⟨Ha, HO, -, Hrest⟩
    imodintro
    isplitl [Ha Hrest]
    · iapply hjoin; isplitl [Ha] <;> iassumption
    unfold Pipeline.Dat.owesAt Pipeline.owesWithin Rest
    icases HO with ⟨%W, -, HO⟩; iexists W; iexact HO

-- the record's fields are stated at the pinned configuration, which unifies with the printed one only by unfolding
set_option backward.isDefEq.respectTransparency.types false in
set_option maxHeartbeats 1600000 in
/-- Region 1, entered with every buffer at its contents before it and left with `main_v22` at what the pipeline wrote. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (obligation1 (E1 m) c).loose
  hwaits := Pipeline.hwaits_of_owed_zero _ _ _ _ L lv 1 fun _ _ => rfl
  pre c := iprop(StableHlo.held (c : Thread nD τ) (Pipeline.ucRefs τ sig) (V3 m (outs m) c) ∗ Rest c)
  post c := iprop(StableHlo.held (c : Thread nD τ) (Pipeline.ucRefs τ sig) (V4 m (outs m) c) ∗ Rest c)
  X _ := BI.emp
  Y _ := BI.emp
  Z c := Pipeline.unscopedRest (Ix := Unit) (Name := ℕ) (U := UR sig nD τ) (Lvl := ℕ) spec1 c (E1 m c)
  hentry c := by
    rw [Pipeline.ownSems0_none,
      show StableHlo.held (c : Thread nD τ) (Pipeline.ucRefs τ sig) (V3 m (outs m) c) = unscopedBufs c (E1 m c)
        from (Pipeline.unscopedBufs_held (Ix := Unit) (Name := ℕ) (U := UR sig nD τ) (Lvl := ℕ) c (V3 m (outs m) c)).symm]
    have hsplit := Pipeline.arrays_of_unscopedBufs (p := 1) (pcfgs (F := F)) adm (pdats m) launch1.win launch1.arr_whole c
      ((pdats m 1 c).share_full fun _ => rfl) (E1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Rest
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩; iexact Hr
  hout c := by
    rw [Pipeline.ownSems0_none, show (pdats m 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (E1 m c) (fun b => V4 m (outs m) c (Proc.devRef .tc b)) ((pdats m 1 c).arrAt · cfg1.N)
      (fun w => by
        fin_cases w
        · exact ((pdats m 1 c).arrAt_in 0 rfl _).trans (V4_of m (outs m) c main_v0 (by decide)).symm
        · exact ((pdats m 1 c).arrAt_in 1 rfl _).trans (V4_of m (outs m) c main_v14 (by decide)).symm
        · exact ((pdats m 1 c).arrAt_in 2 rfl _).trans (V4_of m (outs m) c main_v16 (by decide)).symm
        · exact ((pdats m 1 c).arrAt_in 3 rfl _).trans (V4_of m (outs m) c main_v18 (by decide)).symm
        · exact ((pdats m 1 c).arrAt_in 4 rfl _).trans (V4_of m (outs m) c main_v21 (by decide)).symm
        · exact (outs_ffn m c).symm.trans (V4_self m c).symm)
      (fun b hb => V4_of m (outs m) c b (List.not_mem_cons_of_ne_of_not_mem (fun h => hb (h ▸ Finset.mem_image.mpr ⟨5, Finset.mem_univ _, rfl⟩)) List.not_mem_nil))
    rw [show StableHlo.held (c : Thread nD τ) (Pipeline.ucRefs τ sig) (V4 m (outs m) c) = unscopedBufs c (fun b => V4 m (outs m) c (Proc.devRef .tc b))
        from (Pipeline.unscopedBufs_held (Ix := Unit) (Name := ℕ) (U := UR sig nD τ) (Lvl := ℕ) c (V4 m (outs m) c)).symm]
    iintro ⟨Ha, HO, -, Hrest⟩
    imodintro
    isplitl [Ha Hrest]
    · iapply hjoin; isplitl [Ha] <;> iassumption
    unfold Pipeline.Dat.owesAt Pipeline.owesWithin Rest
    icases HO with ⟨%W, -, HO⟩; iexists W; iexact HO

/-! ## The run -/

/-- The ghost resources the launch starts from. -/
def u₀ : UR sig nD τ := initOf (Pipeline.cells cfgs cellOf_inj) (Pipeline.launchToks cfgs cellOf_inj)

-- the launch theorem's implicit arguments are found by unifying its conclusion with this one
set_option backward.isDefEq.respectTransparency.types false in
set_option maxHeartbeats 1600000 in
/-- THE RUN. From any memory with zero counters every run of the program ends; at the end the result array holds the
    last valuation's contents, each argument is as launched and every semaphore counter is zero. -/
theorem run (ρ : Dev nD → PrngReg) :
    θ_run defs (onTc (τ := τ) (main (F := F))) ⟨m, fun _ => 0, ρ⟩ (fun r => (∀ c : Dev nD,
      r.2.mem ((c.tc : Thread nD τ).loc main_v23) = V5 m (outs m) c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine Pipeline.θ_run_regions_kit_dev_sems (pcfgs (F := F)) adm (pdats m) () cellOf_inj emb₁ defs₀ Variants.none L lv m ρ main
    (segs m (outs m) Variants.none L lv (fun _ => Rest) () (pdats m) (reg0 m) (reg1 m))
    (fun c Q => by
      rewrite [main_chain c, Pipeline.Seg.run_eq_chain,
        show (segs m (outs m) Variants.none L lv (fun _ => Rest) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) (0 : Dev nD → CellTallies nD τ sig Unit) (fun _ _ => rfl)
    (fun _ => iprop(emp)) (u₀) ?_
    (T₀ := fun c => iprop(StableHlo.held (c : Thread nD τ) (Pipeline.ucRefs τ sig) (V0 m c) ∗ Rest c))
    (Tₙ := fun c => StableHlo.held (c : Thread nD τ) (Pipeline.ucRefs τ sig) (V5 m (outs m) c))
    (hch := fun c => ⟨.rfl, .rfl, .rfl, .rfl, .rfl, .rfl⟩)
    (hinit := ?_) (QY := fun c s => s.mem ((c.tc : Thread nD τ).loc main_v23) = V5 m (outs m) c (Proc.devRef .tc main_v23) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h hz => ⟨h, funext fun g => hz g (.inr (regions_no_unscoped g.2))⟩)
  · iintro Hu; imodintro
    isplitl [Hu]
    · iapply (show (ownU u₀ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    unfold Rest
    iintro ⟨⟨Hb, -, HO, -, -, -⟩, -⟩
    imodintro
    isplitl [Hb]; · iexact Hb
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v23) (Finset.mem_filter.mpr ⟨StableHlo.devRef_mem_tcRefs main_v23, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c),
        (h (Proc.devRef .tc main_arg6) (Finset.mem_filter.mpr ⟨StableHlo.devRef_mem_tcRefs main_arg6, by decide⟩)).trans (V5_main_arg6 m (outs m) c),
        (h (Proc.devRef .tc main_arg7) (Finset.mem_filter.mpr ⟨StableHlo.devRef_mem_tcRefs main_arg7, by decide⟩)).trans (V5_main_arg7 m (outs m) c),
        (h (Proc.devRef .tc main_arg8) (Finset.mem_filter.mpr ⟨StableHlo.devRef_mem_tcRefs main_arg8, by decide⟩)).trans (V5_main_arg8 m (outs m) c)⟩
    · iexact HSI

end Cert.KernelIdeal.Run

end
-- ==== Proof.Frames.lean ====
/-
  The frame claims and the ledger claim.

  Each frame claim says that the program ends, with its arguments as they were and every semaphore
  counter back at zero. The kernel's two come from its run (KernelRun, KernelIdealRun), the
  reference's from its run as a list of host operations.
-/
module

public import proofs.«01_k».proof.Defs
public import proofs.«01_k».proof.Proof.KernelRun
public import proofs.«01_k».proof.Proof.KernelIdealRun
public import proofs.«01_k».proof.Proof.Gen.ReferenceIdeal.Run
public import proofs.«01_k».proof.Proof.Gen.Pre_bias_above_neg_inf
public import Idealize.ShloMosaic.Lib.Quiescent

@[expose] public section

noncomputable section

namespace Cert.Proof.Claims

open Idealize.ShloMosaic Idealize.ShloMosaic.TcCoe Idealize.SL.Sem

/-- The kernel at the machine's numbers ends, its arguments unchanged and its counters at zero. -/
theorem frame_kernel : Cert.quiescent_Kernel := fun m ρ _ =>
  (θ_run Cert.Kernel.defs _ _).mono (fun _ h => ⟨fun c => (h.1 c).2, h.2⟩)
    (Cert.Kernel.Run.run (F := Bits) m ρ)

/-- The idealized kernel ends, its arguments unchanged and its counters at zero. -/
theorem frame_ideal : Cert.quiescent_KernelIdeal := fun m ρ _ =>
  (θ_run Cert.KernelIdeal.defs _ _).mono (fun _ h => ⟨fun c => (h.1 c).2, h.2⟩)
    (Cert.KernelIdeal.Run.run (F := Ideal) m ρ)

/-- The same under the value claim's precondition, which it does not need. -/
theorem frame_ideal_pre : Cert.quiescent_KernelIdeal_pre_bias_above_neg_inf := fun m ρ _ =>
  (θ_run Cert.KernelIdeal.defs _ _).mono (fun _ h => ⟨fun c => (h.1 c).2, h.2⟩)
    (Cert.KernelIdeal.Run.run (F := Ideal) m ρ)

/-- The reference ends, its arguments unchanged; it has no semaphore at all. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the value claim's precondition, which it does not need. -/
theorem frame_reference_pre : Cert.quiescent_ReferenceIdeal_pre_bias_above_neg_inf := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealized kernel is the kernel with one constant named: the router's mask, which stands for
    minus infinity. -/
theorem preserves : Cert.preserves_Kernel_KernelIdeal :=
  IdealRules.named_const.statement Cert.KernelIdeal.κ "mask" .f32 0xF149F2CA#32 ⊥ rfl

end Cert.Proof.Claims

end
-- ==== Proof.Choice.lean ====
/-
The greatest and the second greatest entry of a row, ties going to the earlier position, and the two ways of finding
them: the least position among the entries equal to the row's maximum, and the first two positions of a stable sort.
-/
module

public import Idealize.ShloMosaic.Lib.SortPrefix
public import Idealize.ShloMosaic.Lib.Pointwise

@[expose] public section

noncomputable section

namespace Cert.Proof.Choice

open Idealize.ShloMosaic

/-! ## First and second -/

/-- `i` holds the greatest entry of `v`, and no earlier position holds an equal one. -/
structure IsFirst {n : Nat} (v : Fin n → EReal) (i : Fin n) : Prop where
  le : ∀ j, v j ≤ v i
  early : ∀ j, v j = v i → i ≤ j

/-- `k` holds the greatest entry of `v` outside position `i`, and no earlier position but `i` holds an equal one. -/
structure IsSecond {n : Nat} (v : Fin n → EReal) (i k : Fin n) : Prop where
  ne : k ≠ i
  le : ∀ j, j ≠ i → v j ≤ v k
  early : ∀ j, j ≠ i → v j = v k → k ≤ j

/-- A set of positions that is not empty has one holding its greatest entry, the earliest of those that do. -/
theorem exists_earliest_max {n : Nat} (v : Fin n → EReal) (s : Finset (Fin n)) (hs : s.Nonempty) :
    ∃ i ∈ s, (∀ j ∈ s, v j ≤ v i) ∧ ∀ j ∈ s, v j = v i → i ≤ j := by
  obtain ⟨i, hi, hmax⟩ := s.exists_max_image v hs
  have hne : (s.filter fun j => v j = v i).Nonempty := ⟨i, Finset.mem_filter.mpr ⟨hi, rfl⟩⟩
  have hm := Finset.mem_filter.mp (Finset.min'_mem _ hne)
  refine ⟨_, hm.1, fun j hj => (hmax j hj).trans hm.2.ge, fun j hj he => Finset.min'_le _ _ (Finset.mem_filter.mpr ⟨hj, ?_⟩)⟩
  exact he.trans hm.2

/-- Every row has a first position. -/
theorem exists_isFirst {n : Nat} (v : Fin (n + 1) → EReal) : ∃ i, IsFirst v i := by
  obtain ⟨i, -, h1, h2⟩ := exists_earliest_max v Finset.univ ⟨0, Finset.mem_univ _⟩
  exact ⟨i, fun j => h1 j (Finset.mem_univ _), fun j => h2 j (Finset.mem_univ _)⟩

/-- Every row of at least two entries has a second position. -/
theorem exists_isSecond {n : Nat} (v : Fin (n + 2) → EReal) (i : Fin (n + 2)) : ∃ k, IsSecond v i k := by
  obtain ⟨k0, hk0⟩ := exists_ne i
  obtain ⟨k, hk, h1, h2⟩ := exists_earliest_max v (Finset.univ.erase i) ⟨k0, Finset.mem_erase.mpr ⟨hk0, Finset.mem_univ _⟩⟩
  exact ⟨k, (Finset.mem_erase.mp hk).1, fun j hj => h1 j (Finset.mem_erase.mpr ⟨hj, Finset.mem_univ _⟩),
    fun j hj => h2 j (Finset.mem_erase.mpr ⟨hj, Finset.mem_univ _⟩)⟩

/-- With the first position lowered to −∞, the second one, if it is above −∞, becomes the first. -/
theorem IsSecond.isFirst_lowered {n : Nat} {v : Fin n → EReal} {i k : Fin n} (h : IsSecond v i k) (hk : ⊥ < v k) :
    IsFirst (fun j => if j = i then ⊥ else v j) k where
  le j := by
    simp only [if_neg h.ne]
    by_cases hj : j = i
    · rw [if_pos hj]; exact bot_le
    · rw [if_neg hj]; exact h.le j hj
  early j := by
    simp only [if_neg h.ne]
    by_cases hj : j = i
    · rw [if_pos hj]; intro e; rw [← e] at hk; exact absurd hk (lt_irrefl _)
    · rw [if_neg hj]; exact h.early j hj

/-! ## The least word among the positions of the maximum -/

/-- The signed minimum of a row of words is the word no other is below. -/
theorem fold_minsi_eq {n : Nat} (w : Fin n → BitVec 32) (init : BitVec 32) (i : Fin n)
    (h : ∀ j, (w i).toInt ≤ (w j).toInt) (hinit : (w i).toInt ≤ init.toInt) :
    Finset.univ.fold IntOp.minsi init w = w i := by
  refine BitVec.eq_of_toInt_eq ?_
  have hh : ∀ x y : BitVec 32, (IntOp.minsi x y).toInt = min x.toInt y.toInt := fun x y => by
    simp only [IntOp.minsi, BitVec.slt, decide_eq_true_eq]
    by_cases hxy : x.toInt < y.toInt
    · rw [if_pos hxy, min_eq_left hxy.le]
    · rw [if_neg hxy, min_eq_right (not_lt.mp hxy)]
  rw [← Finset.fold_hom (op' := min) (m := BitVec.toInt) hh]
  refine le_antisymm ((Finset.fold_min_le _).mpr (Or.inr ⟨i, Finset.mem_univ _, le_rfl⟩)) ?_
  exact (Finset.le_fold_min _).mpr ⟨hinit, fun j _ => h j⟩

/-- The maximum of a row, started at −∞, is the entry no other is above. -/
theorem fold_max_eq {n : Nat} (f : Fin n → EReal) (i : Fin n) (h : ∀ j, f j ≤ f i) :
    Finset.univ.fold max (⊥ : EReal) f = f i :=
  le_antisymm ((Finset.fold_max_le _).mpr ⟨bot_le, fun j _ => h j⟩)
    ((Finset.le_fold_max _).mpr (Or.inr ⟨i, Finset.mem_univ _, le_rfl⟩))

/-- The f32 word of −∞ denotes −∞. -/
theorem ofBits_neg_inf : Ideal.ofBits .f32 0xFF800000#32 = (⊥ : EReal) := by
  simp [Ideal.ofBits, Ideal.ieee]

/-- The least word among the positions of a row's maximum: where `i` holds the maximum and no position that does has a
    word below `i`'s, it is `i`'s word. -/
theorem least_word_of_max {n : Nat} (f : Fin n → EReal) (ids : Fin n → BitVec 32) (d : BitVec 32) (i : Fin n)
    (hle : ∀ j, f j ≤ f i) (hids : ∀ j, f j = f i → (ids i).toInt ≤ (ids j).toInt) (hd : (ids i).toInt ≤ d.toInt)
    (hmax : (ids i).toInt ≤ 2147483647) :
    Finset.univ.fold IntOp.minsi (2147483647#32) (fun x =>
      if f x = Finset.univ.fold max (Ideal.ofBits .f32 4286578688#32) (fun x => f x) then ids x else d) = ids i := by
  have hm : Finset.univ.fold max (Ideal.ofBits .f32 4286578688#32) (fun x => f x) = f i := by
    have := fold_max_eq f i hle
    rw [← ofBits_neg_inf] at this
    exact this
  rw [hm]
  have h0 : (if f i = f i then ids i else d) = ids i := if_pos rfl
  have := fold_minsi_eq (fun x => if f x = f i then ids x else d) 2147483647#32 i (fun j => by
    rw [h0]
    by_cases hj : f j = f i
    · simp only [if_pos hj]; exact hids j hj
    · simp only [if_neg hj]; exact hd) (by rw [h0]; exact hmax)
  exact this.trans h0

/-- A small natural number as a signed word. -/
theorem toInt_small {n : Nat} (h : n < 2147483648) : (BitVec.ofNat 32 n).toInt = n := by
  rw [BitVec.toInt_eq_toNat_cond, BitVec.toNat_ofNat]; omega

/-- The least column number among the columns of a row's maximum is the first position. -/
theorem IsFirst.least_column {n : Nat} {f : Fin n → EReal} {i : Fin n} (h : IsFirst f i) (hn : n < 2147483648) :
    Finset.univ.fold IntOp.minsi (2147483647#32) (fun x : Fin n =>
      if f x = Finset.univ.fold max (Ideal.ofBits .f32 4286578688#32) (fun x => f x) then BitVec.ofNat 32 x.val
        else BitVec.ofNat 32 n) = BitVec.ofNat 32 i.val := by
  have hi := i.isLt
  refine least_word_of_max f (fun x => BitVec.ofNat 32 x.val) (BitVec.ofNat 32 n) i h.le (fun j hj => ?_) ?_ ?_
  · have h1 := h.early j hj
    have hj := j.isLt
    rw [toInt_small (by omega), toInt_small (by omega)]
    exact_mod_cast h1
  · rw [toInt_small (by omega), toInt_small (by omega)]; omega
  · rw [toInt_small (by omega)]; omega

/-! ## The first positions of a stable sort, greatest first -/

/-- "Greater first", the entries alone compared. -/
def greater {n : Nat} (v : Fin n → EReal) (a b : Fin n) : Bool := decide (v b < v a)

/-- "Greater first, then the earlier position". -/
def greaterThenEarlier {n : Nat} (v : Fin n → EReal) (a b : Fin n) : Bool :=
  decide (v b < v a) || (decide (v a = v b) && decide (a < b))

theorem greaterThenEarlier_total {n : Nat} (v : Fin n → EReal) : StrictTotalBefore (greaterThenEarlier v) :=
  StrictTotalBefore.of_key_then_position (fun a b : EReal => decide (b < a)) v (fun a => by simp)
    (fun a b c hab hbc => by simp only [decide_eq_true_eq] at *; exact hbc.trans hab)
    (fun a b => by simp only [decide_eq_true_eq]; exact (lt_trichotomy b a).imp id (Or.imp Eq.symm id))

/-- Inserting a position before later ones, the tie rule changes nothing. -/
theorem insertBefore_greater {n : Nat} (v : Fin n → EReal) (a : Fin n) (l : List (Fin n)) (h : ∀ b ∈ l, a < b) :
    insertBefore (greater v) a l = insertBefore (greaterThenEarlier v) a l := by
  induction l with
  | nil => rfl
  | cons b l ih =>
    have hb : greaterThenEarlier v b a = greater v b a := by
      have := h b List.mem_cons_self
      simp [greaterThenEarlier, greater, not_lt.mpr this.le]
    unfold insertBefore
    rw [hb, ih fun c hc => h c (List.mem_cons_of_mem _ hc)]

/-- A stable sort of positions in increasing order compares ties by position. -/
theorem stableSort_greater {n : Nat} (v : Fin n → EReal) (l : List (Fin n)) (h : l.Pairwise (· < ·)) :
    stableSort (greater v) l = stableSort (greaterThenEarlier v) l := by
  induction l with
  | nil => rfl
  | cons a l ih =>
    obtain ⟨h1, h2⟩ := List.pairwise_cons.mp h
    unfold stableSort
    rw [ih h2]
    exact insertBefore_greater v a _ fun b hb => h1 b ((perm_stableSort _ l).mem_iff.mp hb)

theorem sortedFrom_greater {n : Nat} (v : Fin n → EReal) : sortedFrom (greater v) = sortedFrom (greaterThenEarlier v) := by
  have e : sortPositions n (greater v) = sortPositions n (greaterThenEarlier v) :=
    stableSort_greater v _ (List.pairwise_lt_finRange n)
  funext k
  unfold sortedFrom
  rw [List.get_of_eq e]
  rfl

/-- The first two positions of the sort are the first and the second position of the row. -/
theorem sortedFrom_first_two {n : Nat} (hn : 2 ≤ n) {v : Fin n → EReal} {i k : Fin n} (h1 : IsFirst v i)
    (h2 : IsSecond v i k) (x : Fin 2) : sortedFrom (greater v) (x.castLE hn) = if x = 0 then i else k := by
  rw [sortedFrom_greater]
  have hlt : ∀ a b : Fin n, (v a ≤ v b ∧ (v a = v b → b ≤ a)) → greaterThenEarlier v a b = false := fun a b h => by
    simp only [greaterThenEarlier, Bool.or_eq_false_iff, Bool.and_eq_false_iff, decide_eq_false_iff_not, not_lt]
    refine ⟨h.1, ?_⟩
    by_cases e : v a = v b
    · exact Or.inr (h.2 e)
    · exact Or.inl e
  refine (greaterThenEarlier_total v).sortedFrom_eq_of_prefix hn (fun x : Fin 2 => if x = 0 then i else k) ?_ ?_ ?_ x
  · intro a b e
    fin_cases a <;> fin_cases b <;> simp_all [h2.ne, h2.ne.symm]
  · intro a b hab
    fin_cases a <;> fin_cases b <;> simp at hab ⊢
    exact hlt _ _ ⟨h1.le k, h1.early k⟩
  · intro a p hp
    have hpi : p ≠ i := fun e => hp 0 (by simp [e])
    fin_cases a
    · simpa using hlt _ _ ⟨h1.le p, h1.early p⟩
    · simpa using hlt _ _ ⟨h2.le p hpi, h2.early p hpi⟩

/-- Sorting a row does not change its sum. -/
theorem sum_sortedFrom {n : Nat} (v : Fin n → EReal) (B : Fin n → Fin n → Bool) :
    ∑ x, v (sortedFrom B x) = ∑ x, v x :=
  Function.Bijective.sum_comp ⟨sortedFrom_injective B, sortedFrom_surjective B⟩ v

end Cert.Proof.Choice
-- ==== Proof.Routing.lean ====
/-
The routing of one token, as mathematics: eight experts in four groups of two, the two groups of greatest sum, the two
greatest experts inside them, and the two weights.
-/
module

public import proofs.«01_k».proof.Proof.Choice
public import Idealize.ShloMosaic.Lib.IdealHost

@[expose] public section

noncomputable section

namespace Cert.Proof.Routing

open Idealize.ShloMosaic Cert.Proof.Choice

/-- The first expert of a group. -/
def lo (g : Fin 4) : Fin 8 := ⟨2 * g.val, by omega⟩

/-- The second expert of a group. -/
def hi (g : Fin 4) : Fin 8 := ⟨2 * g.val + 1, by omega⟩

/-- The group of an expert. -/
def grp (e : Fin 8) : Fin 4 := ⟨e.val / 2, by omega⟩

theorem grp_lo (g : Fin 4) : grp (lo g) = g := Fin.ext (by simp only [grp, lo]; omega)
theorem grp_hi (g : Fin 4) : grp (hi g) = g := Fin.ext (by simp only [grp, hi]; omega)

/-- The sum of a group's two entries. -/
def pair (v : Fin 8 → EReal) (g : Fin 4) : EReal := v (lo g) + v (hi g)

/-- The entries of two groups kept, the others lowered to −∞. -/
def kept (v : Fin 8 → EReal) (g1 g2 : Fin 4) (e : Fin 8) : EReal := if grp e = g1 ∨ grp e = g2 then v e else ⊥

/-- `e1` and `e2` are the experts chosen for the corrected scores `v`, out of the groups `g1` and `g2`. -/
structure Routed (v : Fin 8 → EReal) (g1 g2 : Fin 4) (e1 e2 : Fin 8) : Prop where
  group1 : IsFirst (pair v) g1
  group2 : IsSecond (pair v) g1 g2
  expert1 : IsFirst (kept v g1 g2) e1
  expert2 : IsSecond (kept v g1 g2) e1 e2

/-- Every row of corrected scores is routed somewhere. -/
theorem exists_routed (v : Fin 8 → EReal) : ∃ g1 g2 e1 e2, Routed v g1 g2 e1 e2 := by
  obtain ⟨g1, h1⟩ := exists_isFirst (n := 3) (pair v)
  obtain ⟨g2, h2⟩ := exists_isSecond (n := 2) (pair v) g1
  obtain ⟨e1, h3⟩ := exists_isFirst (n := 7) (kept v g1 g2)
  obtain ⟨e2, h4⟩ := exists_isSecond (n := 6) (kept v g1 g2) e1
  exact ⟨g1, g2, e1, e2, h1, h2, h3, h4⟩

/-- A group of entries above −∞ has a sum above −∞. -/
theorem pair_above {v : Fin 8 → EReal} (hv : ∀ e, ⊥ < v e) (g : Fin 4) : ⊥ < pair v g :=
  EReal.bot_lt_add_iff.mpr ⟨hv _, hv _⟩

/-- Where no corrected score is −∞, neither is the second chosen expert's kept entry. -/
theorem Routed.kept_above {v : Fin 8 → EReal} {g1 g2 : Fin 4} {e1 e2 : Fin 8} (h : Routed v g1 g2 e1 e2)
    (hv : ∀ e, ⊥ < v e) : ⊥ < kept v g1 g2 e2 := by
  have hk : ∀ e, grp e = g1 → ⊥ < kept v g1 g2 e := fun e he => by
    rw [kept, if_pos (Or.inl he)]; exact hv e
  by_cases he : lo g1 = e1
  · refine (hk (hi g1) (grp_hi g1)).trans_le (h.expert2.le _ fun e => ?_)
    have := congrArg Fin.val (he.trans e.symm)
    simp only [lo, hi] at this
    omega
  · exact (hk (lo g1) (grp_lo g1)).trans_le (h.expert2.le _ he)

/-- The small constant added to the sum of the two scores. -/
def eps : EReal := Ideal.ofBits .f32 0x1E3CE508#32

theorem eps_pos : ∃ r : ℝ, 0 < r ∧ eps = (r : EReal) := by
  refine ⟨_, ?_, by
    unfold eps
    simp only [Ideal.ofBits, Ideal.ieee]
    rfl⟩
  norm_num
  rw [if_neg (by decide)]
  positivity

/-- The divisor of the two weights. -/
def divisor (s : Fin 8 → EReal) (e1 e2 : Fin 8) : EReal := s e1 + s e2 + eps

/-- The weight of expert `e`: the score of a chosen expert over the divisor, zero for the others. -/
def weight (s : Fin 8 → EReal) (e1 e2 e : Fin 8) : EReal :=
  if e = e1 then Ideal.div (s e1) (divisor s e1 e2) else if e = e2 then Ideal.div (s e2) (divisor s e1 e2) else 0

/-- A score: a real number that is not negative. -/
def IsScore (x : EReal) : Prop := ∃ r : ℝ, 0 ≤ r ∧ x = (r : EReal)

theorem divisor_pos {s : Fin 8 → EReal} (hs : ∀ e, IsScore (s e)) (e1 e2 : Fin 8) :
    ∃ r : ℝ, 0 < r ∧ divisor s e1 e2 = (r : EReal) := by
  obtain ⟨a, ha, ea⟩ := hs e1
  obtain ⟨b, hb, eb⟩ := hs e2
  obtain ⟨c, hc, ec⟩ := eps_pos
  exact ⟨a + b + c, by positivity, by rw [divisor, ea, eb, ec]; push_cast; rfl⟩

theorem divisor_ne_zero {s : Fin 8 → EReal} (hs : ∀ e, IsScore (s e)) (e1 e2 : Fin 8) : divisor s e1 e2 ≠ 0 := by
  obtain ⟨r, hr, e⟩ := divisor_pos hs e1 e2
  rw [e]; exact_mod_cast hr.ne'

/-- Every weight is a real number that is not negative. -/
theorem weight_isScore {s : Fin 8 → EReal} (hs : ∀ e, IsScore (s e)) (e1 e2 e : Fin 8) : IsScore (weight s e1 e2 e) := by
  obtain ⟨r, hr, er⟩ := divisor_pos hs e1 e2
  have hdiv : ∀ i, IsScore (Ideal.div (s i) (divisor s e1 e2)) := fun i => by
    obtain ⟨a, ha, ea⟩ := hs i
    refine ⟨a * (1 / r), by positivity, ?_⟩
    rw [ea, er, Ideal.div_coe hr.ne']; push_cast; rfl
  unfold weight
  split_ifs
  · exact hdiv _
  · exact hdiv _
  · exact ⟨0, le_rfl, by simp⟩

/-- The logistic function of any extended real is a score. -/
theorem isScore_logistic (x : EReal) : IsScore (Ideal.logistic x) := by
  induction x with
  | bot => exact ⟨0, le_rfl, by simp⟩
  | top => exact ⟨1, zero_le_one, by simp⟩
  | coe r => exact ⟨(1 + Real.exp (-r))⁻¹, by positivity, by simp⟩

/-- A score added to a number above −∞ is above −∞. -/
theorem IsScore.add_above {x y : EReal} (hx : IsScore x) (hy : ⊥ < y) : ⊥ < x + y := by
  obtain ⟨r, -, e⟩ := hx
  rw [e]
  exact EReal.bot_lt_add_iff.mpr ⟨EReal.bot_lt_coe r, hy⟩

/-- A score multiplies into a sum from the right. -/
theorem IsScore.sum_mul {ι : Type} {w : EReal} (hw : IsScore w) (s : Finset ι) (f : ι → EReal) :
    (∑ i ∈ s, f i) * w = ∑ i ∈ s, f i * w := by
  classical
  obtain ⟨r, hr, e⟩ := hw
  subst e
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The kernel's way of laying the two weights out: both placed, added, and divided by the divisor. -/
theorem placed_div_eq_weight {s : Fin 8 → EReal} (hs : ∀ e, IsScore (s e)) {e1 e2 : Fin 8} (hne : e2 ≠ e1) (e : Fin 8) :
    Ideal.div ((if e = e1 then s e1 else 0) + (if e = e2 then s e2 else 0)) (divisor s e1 e2) = weight s e1 e2 e := by
  unfold weight
  by_cases h1 : e = e1
  · rw [if_pos h1, if_pos h1, if_neg (fun h => hne (h.symm.trans h1)), add_zero]
  · rw [if_neg h1, if_neg h1, zero_add]
    by_cases h2 : e = e2
    · rw [if_pos h2, if_pos h2]
    · rw [if_neg h2, if_neg h2, Ideal.zero_div (divisor_ne_zero hs e1 e2)]

/-- The reference's way: each weight divided first, then placed, then added. -/
theorem div_placed_eq_weight (s : Fin 8 → EReal) {e1 e2 : Fin 8} (hne : e2 ≠ e1) (e : Fin 8) :
    (if e1 = e then Ideal.div (s e1) (divisor s e1 e2) else 0)
      + (if e2 = e then Ideal.div (s e2) (divisor s e1 e2) else 0) = weight s e1 e2 e := by
  unfold weight
  by_cases h1 : e = e1
  · rw [if_pos h1, if_pos h1.symm, if_neg (fun h => hne (h.trans h1)), add_zero]
  · rw [if_neg h1, if_neg (Ne.symm h1), zero_add]
    by_cases h2 : e = e2
    · rw [if_pos h2, if_pos h2.symm]
    · rw [if_neg h2, if_neg (Ne.symm h2)]

end Cert.Proof.Routing
-- ==== Proof.Gated.lean ====
/-
The arithmetic that the two programs' feed-forward layers share: one gated hidden unit, and the sum over the eight experts
and the shared expert's four blocks of hidden units.
-/
module

public import proofs.«01_k».proof.Proof.Routing
public import Idealize.ShloMosaic.Lib.Pointwise
public import Idealize.ShloMosaic.Lib.Pipeline.ValueKit

@[expose] public section

noncomputable section

namespace Cert.Proof.Ffn

open Idealize.ShloMosaic
open Cert.Proof.Routing

/-- One hidden unit of a gated feed-forward layer: the token's product with the gate row, through x · logistic x, times
    the token's product with the up row. -/
def gated (x g u : Fin 1024 → EReal) : EReal :=
  (∑ k, x k * g k) * Ideal.logistic (∑ k, x k * g k) * ∑ k, x k * u k

/-- An expert's part: summing the weighted units is weighting the sum of the units, for a weight that is a real
    number at least zero. -/
theorem expert_part {w : EReal} (hw : IsScore w) (y d : Fin 512 → EReal) :
    ∑ f, y f * w * d f = (∑ f, d f * y f) * w := by
  rw [hw.sum_mul]
  refine Finset.sum_congr rfl fun f _ => ?_
  rw [mul_comm (d f), mul_assoc, mul_assoc, mul_comm w]

/-- The shared expert's part: four blocks of 512 hidden units are its 2048 hidden units. -/
theorem shared_part (z : Fin 2048 → EReal) :
    ∑ s : Fin 4, ∑ f : Fin 512, z ⟨s.val * 512 + f.val, by omega⟩ = ∑ f, z f :=
  Fin.sum_mul_add_fin 4 512 z

/-- A sum over twelve places is the sum over the first eight and the sum over the last four. -/
theorem sum_eight_four (F : Fin 12 → EReal) :
    ∑ j, F j = ∑ e : Fin 8, F ⟨e.val, by omega⟩ + ∑ s : Fin 4, F ⟨8 + s.val, by omega⟩ :=
  Fin.sum_univ_add (a := 8) (b := 4) F

end Cert.Proof.Ffn
-- ==== Proof.FfnKernel.lean ====
/-
The feed-forward kernel over the extended reals: each entry of its result is the sum over the twelve grid points of that
point's gated hidden units, weighted by the token's weight of the point and projected down.
-/
module

public import proofs.«01_k».proof.Proof.KernelIdealRun
public import proofs.«01_k».proof.Proof.Gated

@[expose] public section

set_option maxRecDepth 16384

noncomputable section

namespace Cert.KernelIdeal.Run

open Cert.KernelIdeal Cert.KernelIdeal.Gen
open Idealize.ShloMosaic Idealize.ShloMosaic.TcCoe
open Cert.Proof.Ffn

/-- One grid point's part at token `t` and model coordinate `h`. -/
theorem part_apply (x : FVec Ideal S2048x1024 .f32) (g u : FVec Ideal S512x1024 .f32) (d : FVec Ideal S1x1024x512 .f32)
    (w : FVec Ideal S1x2048x1 .f32) (t : Fin 2048) (h : Fin 1024) :
    k1_pay1 (F := Ideal) x g u d w (ix2 t h)
      = ∑ f : Fin 512, gated (fun k => x (ix2 t k)) (fun k => g (ix2 f k)) (fun k => u (ix2 f k)) * w (ix3 0 t 0) * d (ix3 0 h f) := by
  pointwise [k1_pay1]
  rfl

/-- A later grid point adds its part to what the buffer held. -/
theorem step_apply (x : FVec Ideal S2048x1024 .f32) (g u : FVec Ideal S512x1024 .f32) (d : FVec Ideal S1x1024x512 .f32)
    (w : FVec Ideal S1x2048x1 .f32) (b : FVec Ideal S2048x1024 .f32) (t : Fin 2048) (h : Fin 1024) :
    k1_pay2 (F := Ideal) x g u d w b (ix2 t h) = b (ix2 t h) + k1_pay1 (F := Ideal) x g u d w (ix2 t h) := by
  have e : k1_pay2 (F := Ideal) x g u d w b = addf (shapeCast S2048x1024 b) (k1_pay1 (F := Ideal) x g u d w) := rfl
  rw [e]
  generalize k1_pay1 (F := Ideal) x g u d w = p
  pointwise

variable (V : (c : Dev nD) → (b : Ref sig .tc) → Buf (Elt Ideal) ((c : Thread nD τ).loc b))

/-- The block index of every window at every grid point. -/
theorem idx1 : ∀ t : Fin cfg1.N, win1_0.index t = ![0, 0] ∧ win1_1.index t = ![t.val, 0, 0] ∧ win1_2.index t = ![t.val, 0]
    ∧ win1_3.index t = ![t.val, 0] ∧ win1_4.index t = ![t.val, 0, 0] :=
  (by decide +kernel : ∀ t : Fin grid1.N, _)

/-- Row `f` of block `n` of the stacked weights. -/
def row (n : Fin grid1.N) (f : Fin 512) : Fin 6144 := ⟨n.val * 512 + f.val, by have := Nat.lt_of_lt_of_eq n.isLt N_1; omega⟩

/-- Grid point `n` as a plane of the stacked arrays. -/
def plane (n : Fin grid1.N) : Fin 12 := ⟨n.val, Nat.lt_of_lt_of_eq n.isLt N_1⟩

theorem blk1_x (c : Dev nD) (n : Fin grid1.N) (t : Fin 2048) (k : Fin 1024) :
    blk1 V c 0 n (ix2 t k) = V c main_v0 (ix2 t k) := by
  blk_ext [blk1, idx1 n]

theorem blk1_w (c : Dev nD) (n : Fin grid1.N) (t : Fin 2048) :
    blk1 V c 1 n (ix3 0 t 0) = V c main_v14 (ix3 (plane n) t 0) := by
  blk_ext [blk1, idx1 n, plane]

theorem blk1_g (c : Dev nD) (n : Fin grid1.N) (f : Fin 512) (k : Fin 1024) :
    blk1 V c 2 n (ix2 f k) = V c main_v16 (ix2 (row n f) k) := by
  blk_ext [blk1, idx1 n, row]

theorem blk1_u (c : Dev nD) (n : Fin grid1.N) (f : Fin 512) (k : Fin 1024) :
    blk1 V c 3 n (ix2 f k) = V c main_v18 (ix2 (row n f) k) := by
  blk_ext [blk1, idx1 n, row]

theorem blk1_d (c : Dev nD) (n : Fin grid1.N) (h : Fin 1024) (f : Fin 512) :
    blk1 V c 4 n (ix3 0 h f) = V c main_v21 (ix3 (plane n) h f) := by
  blk_ext [blk1, idx1 n, plane]

/-- Grid point `n`'s part at token `t` and model coordinate `h`, in the entries of the arrays. -/
def term (c : Dev nD) (t : Fin 2048) (h : Fin 1024) (n : Fin grid1.N) : EReal :=
  ∑ f : Fin 512, gated (fun k => V c main_v0 (ix2 t k)) (fun k => V c main_v16 (ix2 (row n f) k)) (fun k => V c main_v18 (ix2 (row n f) k))
    * V c main_v14 (ix3 (plane n) t 0) * V c main_v21 (ix3 (plane n) h f)

theorem part_eq_term (c : Dev nD) (t : Fin 2048) (h : Fin 1024) (n : Fin grid1.N) :
    k1_pay1 (F := Ideal) (blk1 V c 0 n) (blk1 V c 2 n) (blk1 V c 3 n) (blk1 V c 4 n) (blk1 V c 1 n) (ix2 t h) = term V c t h n := by
  rw [part_apply]
  refine Finset.sum_congr rfl fun f _ => ?_
  simp only [blk1_x, blk1_w, blk1_g, blk1_u, blk1_d]

/-- After the last grid point the accumulator holds the sum of every point's part. -/
theorem ffnAt_last (c : Dev nD) (t : Fin 2048) (h : Fin 1024) :
    ffnAt V c t1_11.val t1_11.isLt (ix2 t h) = ∑ n : Fin grid1.N, term V c t h n := by
  have := Pipeline.eq_sum_fin_of_reset_step_last (fun n hn => (ffnAt V c n hn (ix2 t h) : EReal)) 12 0 (term V c t h)
    (fun n hn => by
      have h0 : n.val = 0 := by have := Nat.lt_of_lt_of_eq n.isLt N_1; omega
      rw [zero_add, ffnAt_zero V c n h0]
      exact part_eq_term V c t h n)
    (fun n hn => by
      have h1 : 1 ≤ n.val := by omega
      rw [ffnAt_next V c n h1, step_apply]
      exact congrArg _ (part_eq_term V c t h n))
    (le_of_eq N_1) t1_11 rfl
  rwa [zero_add] at this

/-- The result's array after the kernel. -/
theorem ffn_final (c : Dev nD) (t : Fin 2048) (h : Fin 1024) :
    (dat1 V c).arrAt 5 cfg1.N (ix2 t h) = ∑ n : Fin grid1.N, term V c t h n := by
  have e : (dat1 V c).arrAt 5 cfg1.N = fun j => ffnAt V c t1_11.val t1_11.isLt j := by
    refine (dat1 V c).arrAt_eq_of_after_last 5 t1_11 (by decide +kernel) _ fun j => ?_
    blk_simp
    rw [after1_5]
  rw [e]
  exact ffnAt_last V c t h

end Cert.KernelIdeal.Run
-- ==== Proof.RouterKernel.lean ====
/-
The router kernel over the extended reals: each entry of its result is the routing's weight of that token and expert.
-/
module

public import proofs.«01_k».proof.Proof.KernelIdealBody
public import proofs.«01_k».proof.Proof.Routing
public import Idealize.ShloMosaic.Lib.Pointwise

@[expose] public section

set_option maxRecDepth 16384

noncomputable section

namespace Cert.KernelIdeal.Run

open Cert.KernelIdeal Cert.KernelIdeal.Gen
open Idealize.ShloMosaic
open Cert.Proof.Choice Cert.Proof.Routing

/-- The mask is −∞. -/
theorem mask_eq_bot : (Named.named κ "mask" 0xF149F2CA#32 : Ideal .f32) = (⊥ : EReal) :=
  IdealRules.named_const.ideal_named_scalar _ _ _ _ rfl

theorem pay3_apply (x0 : FVec Ideal S2048x8 .f32) (x1 : FVec Ideal S1x8 .f32) (t : Fin 2048) (e : Fin 8) :
    k0_pay3 (F := Ideal) x0 x1 (ix2 t e) = x0 (ix2 t e) + x1 (ix2 0 e) := by
  pointwise [k0_pay3, k0_pay2]

theorem cols_apply (t : Fin 2048) (e : Fin 8) : cols (ix2 t e) = BitVec.ofNat 32 e.val := by
  pointwise [cols]

/-- The kernel's group number of column `e`. -/
theorem pay4_apply (t : Fin 2048) (e : Fin 8) : k0_pay4 (ix2 t e) = BitVec.ofNat 32 (grp e).val := by
  pointwise [k0_pay4]
  revert e
  decide

/-- Comparing two small numbers as words. -/
theorem cmpi_eq_small {a b : Nat} (ha : a < 256) (hb : b < 256) :
    IntOp.cmpi CmpIPredicate.eq (BitVec.ofNat 32 a) (BitVec.ofNat 32 b) = if a = b then 1#1 else 0#1 := by
  have : (BitVec.ofNat 32 a = BitVec.ofNat 32 b) ↔ a = b := by
    rw [← BitVec.toNat_inj, BitVec.toNat_ofNat, BitVec.toNat_ofNat]; omega
  by_cases h : a = b
  · simp [IntOp.cmpi, h]
  · simp only [IntOp.cmpi, if_neg h]
    rw [beq_eq_false_iff_ne.mpr (fun e => h (this.mp e))]; rfl

theorem select_if {α : Type} (p : Prop) [Decidable p] (x y : α) :
    Scalar.select (if p then 1#1 else 0#1) x y = if p then x else y := by
  by_cases h : p <;> simp [Scalar.select, h]

theorem ori_if (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

/-- The kernel's group sums, each laid over its group's columns. -/
theorem pay7_apply (x0 : FVec Ideal S2048x8 .f32) (x1 : FVec Ideal S1x8 .f32) (t : Fin 2048) (e : Fin 8) :
    k0_pay7 (F := Ideal) (k0_pay3 x0 x1) k0_pay4 (k0_pay5 x0 x1) k0_pay6 (Scalar.ofBits .f32 0x00000000#32) (ix2 t e)
      = pair (fun e => x0 (ix2 t e) + x1 (ix2 0 e)) (grp e) := by
  pointwise [k0_pay7, k0_pay6, k0_pay5, k0_pay3, k0_pay2]
  simp only [pay4_apply]
  have h : ∀ (a : Fin 8) (k : Nat), k < 256 → IntOp.cmpi CmpIPredicate.eq (BitVec.ofNat 32 (grp a).val) (BitVec.ofNat 32 k) = if (grp a).val = k then 1#1 else 0#1 :=
    fun a k hk => cmpi_eq_small (by have := (grp a).isLt; omega) hk
  have h0 := fun a => h a 0 (by omega)
  have h1 := fun a => h a 1 (by omega)
  have h2 := fun a => h a 2 (by omega)
  have h3 := fun a => h a 3 (by omega)
  simp only [h0, h1, h2, h3, select_if, Fin.sum_univ_eight]
  fin_cases e <;> simp [grp, pair, lo, hi]

/-- The corrected scores of token `t`. -/
def corr (x0 : FVec Ideal S2048x8 .f32) (x1 : FVec Ideal S1x8 .f32) (t : Fin 2048) (e : Fin 8) : EReal :=
  x0 (ix2 t e) + x1 (ix2 0 e)

section Routed

variable {x0 : FVec Ideal S2048x8 .f32} {x1 : FVec Ideal S1x8 .f32} {t : Fin 2048} {g1 g2 : Fin 4} {e1 e2 : Fin 8}

/-- The kernel's best group is the routing's. -/
theorem pay8_apply (hR : Routed (corr x0 x1 t) g1 g2 e1 e2) :
    k0_pay8 (F := Ideal) (k0_pay3 x0 x1) k0_pay4 (k0_pay5 x0 x1) k0_pay6 (Scalar.ofBits .f32 0x00000000#32) (ix2 t 0)
      = BitVec.ofNat 32 g1.val := by
  have h7 := pay7_apply x0 x1 t
  unfold k0_pay8
  generalize k0_pay7 (F := Ideal) (k0_pay3 x0 x1) k0_pay4 (k0_pay5 x0 x1) k0_pay6 (Scalar.ofBits .f32 0x00000000#32) = f at h7 ⊢
  pointwise
  simp only [h7, pay4_apply]
  have hg := g1.isLt
  have key := least_word_of_max (fun e : Fin 8 => pair (corr x0 x1 t) (grp e)) (fun e => BitVec.ofNat 32 (grp e).val)
    4#32 (lo g1) (fun j => by simp only [grp_lo]; exact hR.group1.le _)
    (fun j hj => by
      simp only [grp_lo] at hj ⊢
      have h1 := hR.group1.early _ hj
      rw [toInt_small (by omega), toInt_small (by have := (grp j).isLt; omega)]
      exact_mod_cast h1)
    (by simp only [grp_lo]; rw [toInt_small (by omega), toInt_small (n := 4) (by omega)]; omega)
    (by simp only [grp_lo]; rw [toInt_small (by omega)]; omega)
  simp only [grp_lo] at key
  exact key

/-- The kernel's best group, laid over the columns. -/
theorem best1_apply (hR : Routed (corr x0 x1 t) g1 g2 e1 e2) (e : Fin 8) :
    best1 (F := Ideal) x0 x1 (ix2 t e) = BitVec.ofNat 32 g1.val := by
  have h8 := pay8_apply hR
  unfold best1 k0_pay10
  generalize k0_pay8 (F := Ideal) (k0_pay3 x0 x1) k0_pay4 (k0_pay5 x0 x1) k0_pay6 (Scalar.ofBits .f32 0x00000000#32) = f at h8 ⊢
  pointwise
  exact h8

/-- The kernel's second best group is the routing's. -/
theorem best2_apply (hR : Routed (corr x0 x1 t) g1 g2 e1 e2) (hv : ∀ e, ⊥ < corr x0 x1 t e) :
    best2 (F := Ideal) x0 x1 (ix2 t 0) = BitVec.ofNat 32 g2.val := by
  have h7 := pay7_apply x0 x1 t
  have h8 := pay8_apply hR
  unfold best2 k0_pay9
  generalize k0_pay8 (F := Ideal) (k0_pay3 x0 x1) k0_pay4 (k0_pay5 x0 x1) k0_pay6 (Scalar.ofBits .f32 0x00000000#32) = f8 at h8 ⊢
  generalize k0_pay7 (F := Ideal) (k0_pay3 x0 x1) k0_pay4 (k0_pay5 x0 x1) k0_pay6 (Scalar.ofBits .f32 0x00000000#32) = f at h7 ⊢
  pointwise
  simp only [h7, pay4_apply, h8, mask_eq_bot]
  have hg := g2.isLt
  have hc : ∀ e : Fin 8, IntOp.cmpi CmpIPredicate.eq (BitVec.ofNat 32 (grp e).val) (BitVec.ofNat 32 g1.val)
      = if grp e = g1 then 1#1 else 0#1 := fun e => by
    rw [cmpi_eq_small (by have := (grp e).isLt; omega) (by have := g1.isLt; omega)]
    simp only [Fin.ext_iff]
  simp only [hc, select_if]
  have hlow := hR.group2.isFirst_lowered (pair_above hv g2)
  have key := least_word_of_max (fun e : Fin 8 => if grp e = g1 then (⊥ : EReal) else pair (corr x0 x1 t) (grp e))
    (fun e => BitVec.ofNat 32 (grp e).val) 4#32 (lo g2)
    (fun j => by have := hlow.le (grp j); simp only [grp_lo]; exact this)
    (fun j hj => by
      simp only [grp_lo] at hj ⊢
      have h1 := hlow.early (grp j) hj
      rw [toInt_small (by omega), toInt_small (by have := (grp j).isLt; omega)]
      exact_mod_cast h1)
    (by simp only [grp_lo]; rw [toInt_small (by omega), toInt_small (n := 4) (by omega)]; omega)
    (by simp only [grp_lo]; rw [toInt_small (by omega)]; omega)
  simp only [grp_lo] at key
  exact key

/-- The kernel's masked scores are the routing's kept entries. -/
theorem pay11_apply (hR : Routed (corr x0 x1 t) g1 g2 e1 e2) (hv : ∀ e, ⊥ < corr x0 x1 t e) (e : Fin 8) :
    k0_pay11 (F := Ideal) (k0_pay3 x0 x1) k0_pay4 (best2 (F := Ideal) x0 x1) (best1 (F := Ideal) x0 x1) (ix2 t e)
      = kept (corr x0 x1 t) g1 g2 e := by
  pointwise [k0_pay11]
  simp only [pay4_apply, pay3_apply, best1_apply hR, best2_apply hR hv, mask_eq_bot]
  have hc : ∀ (e : Fin 8) (g : Fin 4), IntOp.cmpi CmpIPredicate.eq (BitVec.ofNat 32 (grp e).val) (BitVec.ofNat 32 g.val)
      = if grp e = g then 1#1 else 0#1 := fun e g => by
    rw [cmpi_eq_small (by have := (grp e).isLt; omega) (by have := g.isLt; omega)]
    simp only [Fin.ext_iff]
  simp only [hc, ori_if, select_if, kept, corr]

/-- The kernel's first chosen column. -/
theorem pay12_apply (hR : Routed (corr x0 x1 t) g1 g2 e1 e2) (hv : ∀ e, ⊥ < corr x0 x1 t e) :
    k0_pay12 (F := Ideal) (k0_pay3 x0 x1) cols k0_pay4 (best2 (F := Ideal) x0 x1) (best1 (F := Ideal) x0 x1) (ix2 t 0)
      = BitVec.ofNat 32 e1.val := by
  pointwise [k0_pay12]
  simp only [pay11_apply hR hv, cols_apply]
  exact hR.expert1.least_column (by omega)

/-- The column of a word against a column number. -/
theorem cmpi_eq_col (e k : Fin 8) : IntOp.cmpi CmpIPredicate.eq (BitVec.ofNat 32 e.val) (BitVec.ofNat 32 k.val)
    = if e = k then 1#1 else 0#1 := by
  rw [cmpi_eq_small (by omega) (by omega)]
  simp only [Fin.ext_iff]

/-- The kernel's mark of the first chosen column. -/
theorem pay13_apply (hR : Routed (corr x0 x1 t) g1 g2 e1 e2) (hv : ∀ e, ⊥ < corr x0 x1 t e) (e : Fin 8) :
    k0_pay13 (F := Ideal) (k0_pay3 x0 x1) cols k0_pay4 (best2 (F := Ideal) x0 x1) (best1 (F := Ideal) x0 x1) (ix2 t e)
      = if e = e1 then 1#1 else 0#1 := by
  pointwise [k0_pay13]
  simp only [pay12_apply hR hv, cols_apply, cmpi_eq_col]

/-- The kernel's mark of the second chosen column. -/
theorem pay14_apply (hR : Routed (corr x0 x1 t) g1 g2 e1 e2) (hv : ∀ e, ⊥ < corr x0 x1 t e) (e : Fin 8) :
    k0_pay14 (F := Ideal) (k0_pay3 x0 x1) cols k0_pay4 (best2 (F := Ideal) x0 x1) (best1 (F := Ideal) x0 x1) (ix2 t e)
      = if e = e2 then 1#1 else 0#1 := by
  pointwise [k0_pay14]
  simp only [pay12_apply hR hv, pay11_apply hR hv, cols_apply, cmpi_eq_col, mask_eq_bot, select_if]
  have key := (hR.expert2.isFirst_lowered (hR.kept_above hv)).least_column (by omega)
  rw [key, cmpi_eq_col]

/-- The sum of a row of which one entry is kept. -/
theorem sum_one_kept (s : Fin 8 → EReal) (k : Fin 8) : ∑ x, (if x = k then s x else 0) = s k := by
  rw [Finset.sum_ite_eq' Finset.univ k s, if_pos (Finset.mem_univ k)]

theorem pay15_apply (hR : Routed (corr x0 x1 t) g1 g2 e1 e2) (hv : ∀ e, ⊥ < corr x0 x1 t e) :
    k0_pay15 (F := Ideal) (k0_pay2 x0) (k0_pay3 x0 x1) cols k0_pay4 (best2 (F := Ideal) x0 x1) (best1 (F := Ideal) x0 x1) (ix2 t 0)
      = x0 (ix2 t e1) := by
  pointwise [k0_pay15, k0_pay2]
  simp only [pay13_apply hR hv, select_if]
  exact sum_one_kept (fun e => x0 (ix2 t e)) e1

theorem pay16_apply (hR : Routed (corr x0 x1 t) g1 g2 e1 e2) (hv : ∀ e, ⊥ < corr x0 x1 t e) :
    k0_pay16 (F := Ideal) (k0_pay2 x0) (k0_pay3 x0 x1) cols k0_pay4 (best2 (F := Ideal) x0 x1) (best1 (F := Ideal) x0 x1) (ix2 t 0)
      = x0 (ix2 t e2) := by
  pointwise [k0_pay16, k0_pay2]
  simp only [pay14_apply hR hv, select_if]
  exact sum_one_kept (fun e => x0 (ix2 t e)) e2

/-- THE ROUTER KERNEL: each entry of its result is the routing's weight. -/
theorem routerOut_apply (hR : Routed (corr x0 x1 t) g1 g2 e1 e2) (hv : ∀ e, ⊥ < corr x0 x1 t e)
    (hs : ∀ e, IsScore (x0 (ix2 t e))) (e : Fin 8) :
    routerOut (F := Ideal) x0 x1 (ix2 t e) = weight (fun e => x0 (ix2 t e)) e1 e2 e := by
  pointwise [routerOut, k0_pay1, k0_pay17, k0_pay18]
  simp only [pay13_apply hR hv, pay14_apply hR hv, pay15_apply hR hv, pay16_apply hR hv, select_if]
  exact placed_div_eq_weight hs hR.expert2.ne e

end Routed

end Cert.KernelIdeal.Run
-- ==== Proof.Reads.lean ====
/-
What the two kernels' operands hold in the whole program, entry by entry, in terms of the program's arguments, and the
program's result in terms of the arguments.
-/
module

public import proofs.«01_k».proof.Proof.FfnKernel
public import proofs.«01_k».proof.Proof.RouterKernel
public import Idealize.ShloMosaic.Lib.StableHlo.ReadAt

@[expose] public section

set_option maxRecDepth 16384

noncomputable section

namespace Cert.KernelIdeal.Run

open Cert.KernelIdeal Cert.KernelIdeal.Gen
open Idealize.ShloMosaic Idealize.ShloMosaic.TcCoe
open Cert.Proof.Ffn

variable (m : (l : Loc nD τ sig) → Buf (Elt Ideal) l) (c : Dev nD)

/-! ## The arguments -/

/-- The tokens. -/
abbrev tokens : FVec Ideal S1x2048x1024 .f32 := m ((c : Thread nD τ).loc main_arg0)
/-- The router's matrix. -/
abbrev routerW : FVec Ideal S8x1024 .f32 := m ((c : Thread nD τ).loc main_arg1)
/-- The experts' correction biases. -/
abbrev bias : FVec Ideal S8 .f32 := m ((c : Thread nD τ).loc main_arg2)
/-- The experts' gate, up and down matrices. -/
abbrev gateW : FVec Ideal S8x512x1024 .f32 := m ((c : Thread nD τ).loc main_arg3)
@[inherit_doc gateW] abbrev upW : FVec Ideal S8x512x1024 .f32 := m ((c : Thread nD τ).loc main_arg4)
@[inherit_doc gateW] abbrev downW : FVec Ideal S8x1024x512 .f32 := m ((c : Thread nD τ).loc main_arg5)
/-- The shared expert's gate, up and down matrices. -/
abbrev sharedGate : FVec Ideal S2048x1024 .f32 := m ((c : Thread nD τ).loc main_arg6)
@[inherit_doc sharedGate] abbrev sharedUp : FVec Ideal S2048x1024 .f32 := m ((c : Thread nD τ).loc main_arg7)
@[inherit_doc sharedGate] abbrev sharedDown : FVec Ideal S1024x2048 .f32 := m ((c : Thread nD τ).loc main_arg8)

theorem V2_arg (r : Ref sig .tc) (h1 : r ∉ hostOps0_W) (h2 : r ∉ ([main_v10] : List (Ref sig .tc))) :
    V2 m (outs m) c r = m ((c : Thread nD τ).loc r) :=
  (V2_of m (outs m) c r h2).trans (V1_of m c r h1)

/-! ## The router's operands and its result -/

theorem scores_read (t : Fin 2048) (e : Fin 8) :
    E0 m c main_v8 (ix2 t e) = Ideal.logistic (∑ k : Fin 1024, tokens m c (ix3 0 t k) * routerW m c (ix2 e k)) := by
  show V1 m c (Proc.devRef .tc main_v8) (ix2 t e) = _
  unfold V1 hostOps0
  after_reads_at
  rfl

theorem bias_read (e : Fin 8) : E0 m c main_v9 (ix2 0 e) = bias m c (ix1 e) := by
  show V1 m c (Proc.devRef .tc main_v9) (ix2 0 e) = _
  unfold V1 hostOps0
  after_reads_at

theorem idx0 : ∀ n : Fin cfg0.N, win0_0.index n = ![0, 0] ∧ win0_1.index n = ![0, 0] :=
  (by decide +kernel : ∀ n : Fin grid0.N, _)

theorem blk0_scores (n : Fin grid0.N) (j : S2048x8.Idx) : blk0 (E0 m) c 0 n j = E0 m c main_v8 j := by
  blk_ext [blk0, idx0 n]

theorem blk0_bias (n : Fin grid0.N) (j : S1x8.Idx) : blk0 (E0 m) c 1 n j = E0 m c main_v9 j := by
  blk_ext [blk0, idx0 n]

/-- The router's result array. -/
theorem router_final : outs m 2 main_v10 c = routerOut (F := Ideal) (E0 m c main_v8) (E0 m c main_v9) := by
  rw [outs_router]
  refine (dat0 (E0 m) c).arrAt_eq_of_after_last 2 t0_0 (by decide +kernel) _ fun j => ?_
  blk_simp
  rw [after0_2]
  rw [show blk0 (E0 m) c 0 t0_0 = E0 m c main_v8 from funext (blk0_scores m c t0_0),
    show blk0 (E0 m) c 1 t0_0 = E0 m c main_v9 from funext (blk0_bias m c t0_0)]

/-! ## The feed-forward kernel's operands -/

theorem x_read (t : Fin 2048) (k : Fin 1024) : E1 m c main_v0 (ix2 t k) = tokens m c (ix3 0 t k) := by
  show V3 m (outs m) c (Proc.devRef .tc main_v0) (ix2 t k) = _
  rw [V3_of m (outs m) c main_v0 (by decide), V2_of m (outs m) c main_v0 (by decide)]
  unfold V1 hostOps0
  after_reads_at

theorem gate_read (r : Fin 6144) (k : Fin 1024) :
    E1 m c main_v16 (ix2 r k) = if h : r.val < 4096 then gateW m c (ix3 ⟨r.val / 512, by omega⟩ ⟨r.val % 512, by omega⟩ k)
      else sharedGate m c (ix2 ⟨r.val - 4096, by omega⟩ k) := by
  show V3 m (outs m) c (Proc.devRef .tc main_v16) (ix2 r k) = _
  unfold V3 hostOps1
  after_reads_at
  exact dite_congr rfl (fun _ => congrFun (V2_arg m c main_arg3 (by decide) (by decide)) _) (fun _ => congrFun (V2_arg m c main_arg6 (by decide) (by decide)) _)

theorem up_read (r : Fin 6144) (k : Fin 1024) :
    E1 m c main_v18 (ix2 r k) = if h : r.val < 4096 then upW m c (ix3 ⟨r.val / 512, by omega⟩ ⟨r.val % 512, by omega⟩ k)
      else sharedUp m c (ix2 ⟨r.val - 4096, by omega⟩ k) := by
  show V3 m (outs m) c (Proc.devRef .tc main_v18) (ix2 r k) = _
  unfold V3 hostOps1
  after_reads_at
  exact dite_congr rfl (fun _ => congrFun (V2_arg m c main_arg4 (by decide) (by decide)) _) (fun _ => congrFun (V2_arg m c main_arg7 (by decide) (by decide)) _)

theorem down_read (j : Fin 12) (h : Fin 1024) (f : Fin 512) :
    E1 m c main_v21 (ix3 j h f) = if hj : j.val < 8 then downW m c (ix3 ⟨j.val, hj⟩ h f)
      else sharedDown m c (ix2 h ⟨(j.val - 8) * 512 + f.val, by omega⟩) := by
  show V3 m (outs m) c (Proc.devRef .tc main_v21) (ix3 j h f) = _
  unfold V3 hostOps1
  after_reads_at
  exact dite_congr rfl (fun _ => congrFun (V2_arg m c main_arg5 (by decide) (by decide)) _) (fun _ => congrFun (V2_arg m c main_arg8 (by decide) (by decide)) _)

theorem weight_read (j : Fin 12) (t : Fin 2048) :
    E1 m c main_v14 (ix3 j t 0) = if hj : j.val < 8 then (outs m 2 main_v10 c : FVec Ideal S2048x8 .f32) (ix2 t ⟨j.val, hj⟩) else (1 : EReal) := by
  show V3 m (outs m) c (Proc.devRef .tc main_v14) (ix3 j t 0) = _
  unfold V3 hostOps1
  after_reads_at
  split
  · after_reads_at
    rw [V2_self]
  · after_reads_at

theorem result_read (t : Fin 2048) (h : Fin 1024) :
    V5 m (outs m) c (Proc.devRef .tc main_v23) (ix3 0 t h) = ∑ n : Fin grid1.N, term (E1 m) c t h n := by
  unfold V5 hostOps2
  after_reads_at
  rw [V4_self, outs_ffn]
  exact ffn_final (E1 m) c t h

end Cert.KernelIdeal.Run
-- ==== Proof.KernelValue.lean ====
/-
The kernel program's result over the extended reals, entry by entry, in terms of its arguments and the router's weights.
-/
module

public import proofs.«01_k».proof.Proof.Reads

@[expose] public section

set_option maxRecDepth 16384

noncomputable section

namespace Cert.KernelIdeal.Run

open Cert.KernelIdeal Cert.KernelIdeal.Gen
open Idealize.ShloMosaic Idealize.ShloMosaic.TcCoe
open Cert.Proof.Ffn Cert.Proof.Routing

variable (m : (l : Loc nD τ sig) → Buf (Elt Ideal) l) (c : Dev nD)

/-- The router's result array. -/
abbrev weights : FVec Ideal S2048x8 .f32 := outs m 2 main_v10 c

/-- Grid point `j`. -/
def point (j : Fin 12) : Fin grid1.N := ⟨j.val, Nat.lt_of_lt_of_eq j.isLt N_1.symm⟩

/-- A gate row of expert `e`'s block. -/
theorem gate_expert (e : Fin 8) (f : Fin 512) (k : Fin 1024) :
    E1 m c main_v16 (ix2 (row (point ⟨e.val, by omega⟩) f) k) = gateW m c (ix3 e f k) := by
  rw [gate_read, dif_pos (show (row (point ⟨e.val, by omega⟩) f).val < 4096 from by simp only [row, point]; omega)]
  blk_ext [row, point]

theorem up_expert (e : Fin 8) (f : Fin 512) (k : Fin 1024) :
    E1 m c main_v18 (ix2 (row (point ⟨e.val, by omega⟩) f) k) = upW m c (ix3 e f k) := by
  rw [up_read, dif_pos (show (row (point ⟨e.val, by omega⟩) f).val < 4096 from by simp only [row, point]; omega)]
  blk_ext [row, point]

theorem down_expert (e : Fin 8) (h : Fin 1024) (f : Fin 512) :
    E1 m c main_v21 (ix3 (plane (point ⟨e.val, by omega⟩)) h f) = downW m c (ix3 e h f) := by
  rw [down_read, dif_pos (show (plane (point ⟨e.val, by omega⟩)).val < 8 from e.isLt)]
  blk_ext [plane, point]

theorem weight_expert (e : Fin 8) (t : Fin 2048) :
    E1 m c main_v14 (ix3 (plane (point ⟨e.val, by omega⟩)) t 0) = weights m c (ix2 t e) := by
  rw [weight_read, dif_pos (show (plane (point ⟨e.val, by omega⟩)).val < 8 from e.isLt)]
  blk_ext [plane, point]

/-- A gate row of the shared expert's block `s`. -/
theorem gate_shared (s : Fin 4) (f : Fin 512) (k : Fin 1024) :
    E1 m c main_v16 (ix2 (row (point ⟨8 + s.val, by omega⟩) f) k) = sharedGate m c (ix2 ⟨s.val * 512 + f.val, by omega⟩ k) := by
  rw [gate_read, dif_neg (show ¬(row (point ⟨8 + s.val, by omega⟩) f).val < 4096 from by simp only [row, point]; omega)]
  blk_ext [row, point]

theorem up_shared (s : Fin 4) (f : Fin 512) (k : Fin 1024) :
    E1 m c main_v18 (ix2 (row (point ⟨8 + s.val, by omega⟩) f) k) = sharedUp m c (ix2 ⟨s.val * 512 + f.val, by omega⟩ k) := by
  rw [up_read, dif_neg (show ¬(row (point ⟨8 + s.val, by omega⟩) f).val < 4096 from by simp only [row, point]; omega)]
  blk_ext [row, point]

theorem down_shared (s : Fin 4) (h : Fin 1024) (f : Fin 512) :
    E1 m c main_v21 (ix3 (plane (point ⟨8 + s.val, by omega⟩)) h f) = sharedDown m c (ix2 h ⟨s.val * 512 + f.val, by omega⟩) := by
  rw [down_read, dif_neg (show ¬(plane (point ⟨8 + s.val, by omega⟩)).val < 8 from by simp only [plane, point]; omega)]
  blk_ext [plane, point]

theorem weight_shared (s : Fin 4) (t : Fin 2048) :
    E1 m c main_v14 (ix3 (plane (point ⟨8 + s.val, by omega⟩)) t 0) = (1 : EReal) := by
  rw [weight_read, dif_neg (show ¬(plane (point ⟨8 + s.val, by omega⟩)).val < 8 from by simp only [plane, point]; omega)]

/-- The kernel program's result, entry by entry, where every weight of the router is a real number at least zero. -/
theorem result_apply (hw : ∀ (t : Fin 2048) (e : Fin 8), IsScore (weights m c (ix2 t e))) (t : Fin 2048) (h : Fin 1024) :
    V5 m (outs m) c (Proc.devRef .tc main_v23) (ix3 0 t h)
      = (∑ e : Fin 8, (∑ f : Fin 512, downW m c (ix3 e h f) * gated (fun k => tokens m c (ix3 0 t k)) (fun k => gateW m c (ix3 e f k))
            (fun k => upW m c (ix3 e f k))) * weights m c (ix2 t e))
        + ∑ f : Fin 2048, gated (fun k => tokens m c (ix3 0 t k)) (fun k => sharedGate m c (ix2 f k)) (fun k => sharedUp m c (ix2 f k))
            * sharedDown m c (ix2 h f) := by
  rw [result_read, ← Equiv.sum_comp (finCongr N_1.symm) (term (E1 m) c t h)]
  refine (sum_eight_four fun j => term (E1 m) c t h (point j)).trans ?_
  refine congrArg₂ (· + ·) (Finset.sum_congr rfl fun e _ => ?_) ?_
  · refine Eq.trans ?_ (expert_part (hw t e) _ _)
    refine Finset.sum_congr rfl fun f _ => ?_
    simp only [x_read, gate_expert, up_expert, down_expert, weight_expert]
  · refine Eq.trans ?_ (shared_part _)
    refine Finset.sum_congr rfl fun s _ => Finset.sum_congr rfl fun f _ => ?_
    simp only [x_read, gate_shared, up_shared, down_shared, weight_shared, mul_one]

end Cert.KernelIdeal.Run
-- ==== Proof.RefStages.lean ====
/-
The reference program cut into its stages, each a function of the arrays it reads: the scores, the corrected scores, the
two groups, the two experts, the two weights, the experts' and the shared expert's feed-forward parts, and their sum.
-/
module

public import proofs.«01_k».proof.Proof.Gen.ReferenceIdeal.Run
public import Idealize.ShloMosaic.Lib.Pointwise

@[expose] public section

set_option maxRecDepth 16384

noncomputable section

namespace Cert.ReferenceIdeal.Stages

open Cert.ReferenceIdeal Cert.ReferenceIdeal.Gen Idealize.ShloMosaic Idealize.ShloMosaic.TcCoe Idealize.SL.Sem

/-- The tokens as rows. -/
def rows (x : FVec Ideal S1x2048x1024 .f32) : FVec Ideal S2048x1024 .f32 := shapeCast _ x shapeCasts_S1x2048x1024_S2048x1024

/-- The scores: the logistic function of the tokens' products with the router's rows. -/
def scores (x : FVec Ideal S2048x1024 .f32) (r : FVec Ideal S8x1024 .f32) : FVec Ideal S2048x8 .f32 :=
  Host.divf (broadcastInDim S2048x8 ![] bcast_S_S2048x8 (constant S_ .f32 0x3F800000#32))
    (addf (broadcastInDim S2048x8 ![] bcast_S_S2048x8 (constant S_ .f32 0x3F800000#32))
      (Host.exp (Host.negf (Host.dotGeneral dot_S2048x1024_S1024x8_S2048x8_1_0_0_1_n_n none x
        (transpose S1024x8 [1, 0] r transposes_S8x1024_S1024x8_1_0)))))

/-- The scores with each expert's bias added. -/
def corrected (s : FVec Ideal S2048x8 .f32) (b : FVec Ideal S8 .f32) : FVec Ideal S2048x8 .f32 :=
  addf s (broadcastInDim S2048x8 ![0, 1] bcast_S1x8_S2048x8_0_1 (broadcastInDim S1x8 ![1] bcast_S8_S1x8_1 b))

/-- The sum of each group's two greatest corrected scores. -/
def groupSums (v : FVec Ideal S2048x8 .f32) : FVec Ideal S2048x4 .f32 :=
  Host.reduceAdd (Host.topK S2048x4x2 2 (FloatOps.cmpfTotal .gt) (shapeCast S2048x4x2 v shapeCasts_S2048x8_S2048x4x2)
    sliceFits_S2048x4x2_S2048x4x2).1 (constant S_ .f32 0x00000000#32) reducesTo_S2048x4x2_S2048x4_d2 h_S_

/-- The two groups of greatest sum. -/
def groups (gs : FVec Ideal S2048x4 .f32) : IVec S2048x2 32 :=
  (Host.topK S2048x2 1 (FloatOps.cmpfTotal .gt) gs sliceFits_S2048x4_S2048x2).2

/-- How often each group is among the chosen ones. -/
def groupMask (gi : IVec S2048x2 32) : FVec Ideal S2048x4 .f32 :=
  Host.reduceAdd (uitofp .f32 (cmpi .eq
    (broadcastInDim S2048x2x4 ![0, 1, 2] bcast_S2048x2x1_S2048x2x4_0_1_2
      (broadcastInDim S2048x2x1 ![0, 1] bcast_S2048x2_S2048x2x1_0_1 gi))
    (broadcastInDim S2048x2x4 ![0, 1, 2] bcast_S1x1x4_S2048x2x4_0_1_2 (iotaInDim S1x1x4 32 2))))
    (constant S_ .f32 0x00000000#32) reducesTo_S2048x2x4_S2048x4_d1 h_S_

/-- The corrected scores of the chosen groups, −∞ elsewhere. -/
def masked (v : FVec Ideal S2048x8 .f32) (gm : FVec Ideal S2048x4 .f32) : FVec Ideal S2048x8 .f32 :=
  select (cmpf .ogt
      (shapeCast S2048x8 (broadcastInDim S2048x4x2 ![0, 1, 2] bcast_S2048x4x1_S2048x4x2_0_1_2
        (broadcastInDim S2048x4x1 ![0, 1] bcast_S2048x4_S2048x4x1_0_1 gm)) shapeCasts_S2048x4x2_S2048x8)
      (broadcastInDim S2048x8 ![] bcast_S_S2048x8 (constant S_ .f32 0x00000000#32)))
    v (broadcastInDim S2048x8 ![] bcast_S_S2048x8 (id (constant S_ .f32 0xFF800000#32)))

/-- The two experts of greatest kept score. -/
def experts (k : FVec Ideal S2048x8 .f32) : IVec S2048x2 32 :=
  (Host.topK S2048x2 1 (FloatOps.cmpfTotal .gt) k sliceFits_S2048x8_S2048x2).2

/-- The column a chosen expert's score is read at: a negative number counts from the end. -/
def column (ei : IVec S2048x2 32) : IVec S2048x2x1 32 :=
  shapeCast S2048x2x1 (select (cmpi .slt ei (broadcastInDim S2048x2 ![] bcast_S_S2048x2 (constantI S_ 32 0#32)))
    (addi ei (broadcastInDim S2048x2 ![] bcast_S_S2048x2 (constantI S_ 32 8#32))) ei) shapeCasts_S2048x2_S2048x2x1

/-- Whether that column lies in the row. -/
def inRow (ci : IVec S2048x2x1 32) : IVec S2048x2 1 :=
  Host.reduce IntOp.andi (andi
      (cmpi .sge ci (broadcastInDim S2048x2x1 ![] bcast_S_S2048x2x1 (constantI S_ 32 0#32)))
      (cmpi .sle ci (broadcastInDim S2048x2x1 ![0, 1, 2] bcast_S1x1x1_S2048x2x1_0_1_2
        (broadcastInDim S1x1x1 ![2] bcast_S1_S1x1x1_2 (constantI S1 32 7#32)))))
    (constantI S_ 1 1#1) reducesTo_S2048x2x1_S2048x2_d2 h_S_

/-- The scores of the two chosen experts. -/
def picked (s : FVec Ideal S2048x8 .f32) (ei : IVec S2048x2 32) : FVec Ideal S2048x2 .f32 :=
  select (inRow (column ei)) (Host.gather gather_S2048x8_S2048x2x1_S2048x2_n_1_0_0_1_2_11 s (column ei))
    (broadcastInDim S2048x2 ![] bcast_S_S2048x2 (constant S_ .f32 0x7FC00000#32))

/-- Those scores over their sum and the small constant, times the scale. -/
def normed (p : FVec Ideal S2048x2 .f32) : FVec Ideal S2048x2 .f32 :=
  mulf (Host.divf p (broadcastInDim S2048x2 ![0, 1] bcast_S2048x1_S2048x2_0_1
      (addf (broadcastInDim S2048x1 ![0] bcast_S2048_S2048x1_0
          (Host.reduceAdd p (constant S_ .f32 0x00000000#32) reducesTo_S2048x2_S2048_d1 h_S_))
        (broadcastInDim S2048x1 ![] bcast_S_S2048x1 (constant S_ .f32 0x1E3CE508#32)))))
    (broadcastInDim S2048x2 ![] bcast_S_S2048x2 (constant S_ .f32 0x3F800000#32))

/-- The weights laid out over the experts. -/
def weights (ei : IVec S2048x2 32) (n : FVec Ideal S2048x2 .f32) : FVec Ideal S2048x8 .f32 :=
  Host.reduceAdd (mulf
      (uitofp .f32 (cmpi .eq
        (broadcastInDim S2048x2x8 ![0, 1, 2] bcast_S2048x2x1_S2048x2x8_0_1_2
          (broadcastInDim S2048x2x1 ![0, 1] bcast_S2048x2_S2048x2x1_0_1 ei))
        (broadcastInDim S2048x2x8 ![0, 1, 2] bcast_S1x1x8_S2048x2x8_0_1_2 (iotaInDim S1x1x8 32 2))))
      (broadcastInDim S2048x2x8 ![0, 1, 2] bcast_S2048x2x1_S2048x2x8_0_1_2
        (broadcastInDim S2048x2x1 ![0, 1] bcast_S2048x2_S2048x2x1_0_1 n)))
    (constant S_ .f32 0x00000000#32) reducesTo_S2048x2x8_S2048x8_d1 h_S_

/-- The experts' parts: each token's product with each expert's gated pair, through that expert's last matrix. -/
def expertParts (x : FVec Ideal S2048x1024 .f32) (wg wu : FVec Ideal S8x512x1024 .f32) (wd : FVec Ideal S8x1024x512 .f32) :
    FVec Ideal S8x1024x2048 .f32 :=
  Host.dotGeneral dot_S8x1024x512_S2048x8x512_S8x1024x2048_2_2_1_0_0_1 none wd
    (mulf (mulf (Host.dotGeneral dot_S2048x1024_S8x512x1024_S2048x8x512_1_2_0_01_n_n none x wg)
        (Host.divf (broadcastInDim S2048x8x512 ![] bcast_S_S2048x8x512 (constant S_ .f32 0x3F800000#32))
          (addf (broadcastInDim S2048x8x512 ![] bcast_S_S2048x8x512 (constant S_ .f32 0x3F800000#32))
            (Host.exp (Host.negf (Host.dotGeneral dot_S2048x1024_S8x512x1024_S2048x8x512_1_2_0_01_n_n none x wg))))))
      (Host.dotGeneral dot_S2048x1024_S8x512x1024_S2048x8x512_1_2_0_01_n_n none x wu))

/-- The experts' parts summed under the weights. -/
def combine (p : FVec Ideal S8x1024x2048 .f32) (w : FVec Ideal S2048x8 .f32) : FVec Ideal S2048x1024 .f32 :=
  Host.dotGeneral dot_S2048x8x1024_S2048x8_S2048x1024_1_1_2_n_0_0 none
    (transpose S2048x8x1024 [2, 0, 1] p transposes_S8x1024x2048_S2048x8x1024_2_0_1) w

/-- The shared expert's part. -/
def shared (x : FVec Ideal S2048x1024 .f32) (wg wu : FVec Ideal S2048x1024 .f32) (wd : FVec Ideal S1024x2048 .f32) :
    FVec Ideal S2048x1024 .f32 :=
  Host.dotGeneral dot_S2048x2048_S2048x1024_S2048x1024_1_0_0_1_n_n none
    (mulf (mulf (Host.dotGeneral dot_S2048x1024_S1024x2048_S2048x2048_1_0_0_1_n_n none x
          (transpose S1024x2048 [1, 0] wg transposes_S2048x1024_S1024x2048_1_0))
        (Host.divf (broadcastInDim S2048x2048 ![] bcast_S_S2048x2048 (constant S_ .f32 0x3F800000#32))
          (addf (broadcastInDim S2048x2048 ![] bcast_S_S2048x2048 (constant S_ .f32 0x3F800000#32))
            (Host.exp (Host.negf (Host.dotGeneral dot_S2048x1024_S1024x2048_S2048x2048_1_0_0_1_n_n none x
              (transpose S1024x2048 [1, 0] wg transposes_S2048x1024_S1024x2048_1_0)))))))
      (Host.dotGeneral dot_S2048x1024_S1024x2048_S2048x2048_1_0_0_1_n_n none x
        (transpose S1024x2048 [1, 0] wu transposes_S2048x1024_S1024x2048_1_0)))
    (transpose S2048x1024 [1, 0] wd transposes_S1024x2048_S2048x1024_1_0)

/-- The weights as a function of the scores and the bias. -/
def routing (s : FVec Ideal S2048x8 .f32) (b : FVec Ideal S8 .f32) : FVec Ideal S2048x8 .f32 :=
  weights (experts (masked (corrected s b) (groupMask (groups (groupSums (corrected s b))))))
    (normed (picked s (experts (masked (corrected s b) (groupMask (groups (groupSums (corrected s b))))))))

/-- The whole result. -/
def result (a0 : FVec Ideal S1x2048x1024 .f32) (a1 : FVec Ideal S8x1024 .f32) (a2 : FVec Ideal S8 .f32)
    (a3 a4 : FVec Ideal S8x512x1024 .f32) (a5 : FVec Ideal S8x1024x512 .f32) (a6 a7 : FVec Ideal S2048x1024 .f32)
    (a8 : FVec Ideal S1024x2048 .f32) : FVec Ideal S1x2048x1024 .f32 :=
  shapeCast S1x2048x1024 (addf (combine (expertParts (rows a0) a3 a4 a5) (routing (scores (rows a0) a1) a2))
    (shared (rows a0) a6 a7 a8)) shapeCasts_S2048x1024_S1x2048x1024

/-- The reference's result is `result` of its arguments. -/
theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold Value.res_out0 Value.res_main_v52
  rfl

end Cert.ReferenceIdeal.Stages
-- ==== Proof.RouterReference.lean ====
/-
The reference's routing over the extended reals: each entry of its weights is the routing's weight of that token and
expert.
-/
module

public import proofs.«01_k».proof.Proof.RefStages
public import proofs.«01_k».proof.Proof.Routing
public import Idealize.ShloMosaic.Lib.Pointwise

@[expose] public section

set_option maxRecDepth 16384

noncomputable section

namespace Cert.ReferenceIdeal.Stages

open Cert.ReferenceIdeal Cert.ReferenceIdeal.Gen Idealize.ShloMosaic
open Cert.Proof.Choice Cert.Proof.Routing

theorem scores_apply (x : FVec Ideal S2048x1024 .f32) (r : FVec Ideal S8x1024 .f32) (t : Fin 2048) (e : Fin 8) :
    scores x r (ix2 t e) = Ideal.logistic (∑ k, x (ix2 t k) * r (ix2 e k)) := by
  pointwise [scores]
  rfl

theorem corrected_apply (s : FVec Ideal S2048x8 .f32) (b : FVec Ideal S8 .f32) (t : Fin 2048) (e : Fin 8) :
    corrected s b (ix2 t e) = s (ix2 t e) + b (ix1 e) := by
  pointwise [corrected]

/-! ## The sorts -/

/-- The total order's "greater" bit over the extended reals. -/
theorem cmpfTotal_gt (a b : Ideal .f32) : (FloatOps.cmpfTotal .gt a b == 1#1) = decide (b < a) := by
  show (BitVec.ofBool (decide (b < a)) == 1#1) = decide (b < a)
  cases decide (b < a) <;> rfl

theorem along_row {n m : Nat} (t : Fin n) (k k' : Fin m) :
    Shape.Idx.along (s := ⟨2, ![n, m]⟩) (ix2 t k) 1 k' = ix2 t k' := by
  funext a
  match a with
  | ⟨0, _⟩ => rfl
  | ⟨1, _⟩ => rfl

theorem along_row3 {n l m : Nat} (t : Fin n) (g : Fin l) (k k' : Fin m) :
    Shape.Idx.along (s := ⟨3, ![n, l, m]⟩) (ix3 t g k) 2 k' = ix3 t g k' := by
  funext a
  match a with
  | ⟨0, _⟩ => rfl
  | ⟨1, _⟩ => rfl
  | ⟨2, _⟩ => rfl

/-- The positions a row's top two come from. -/
theorem topK_four (x : FVec Ideal S2048x4 .f32) (t : Fin 2048) (k : Fin 2) :
    (Host.topK S2048x2 1 (FloatOps.cmpfTotal .gt) x sliceFits_S2048x4_S2048x2).2 (ix2 t k)
      = BitVec.ofNat 32 (sortedFrom (greater fun e : Fin 4 => x (ix2 t e)) (k.castLE (by omega))).val := by
  pointwise [Host.topK, Host.sort2]
  simp only [cmpfTotal_gt]
  simp only [along_row]
  rfl

theorem topK_eight (x : FVec Ideal S2048x8 .f32) (t : Fin 2048) (k : Fin 2) :
    (Host.topK S2048x2 1 (FloatOps.cmpfTotal .gt) x sliceFits_S2048x8_S2048x2).2 (ix2 t k)
      = BitVec.ofNat 32 (sortedFrom (greater fun e : Fin 8 => x (ix2 t e)) (k.castLE (by omega))).val := by
  pointwise [Host.topK, Host.sort2]
  simp only [cmpfTotal_gt]
  simp only [along_row]
  rfl

/-- The values of a sorted pair. -/
theorem topK_pair (x : FVec Ideal S2048x4x2 .f32) (t : Fin 2048) (g : Fin 4) (k : Fin 2) :
    (Host.topK S2048x4x2 2 (FloatOps.cmpfTotal .gt) x sliceFits_S2048x4x2_S2048x4x2).1 (ix3 t g k)
      = x (ix3 t g (sortedFrom (greater fun a : Fin 2 => x (ix3 t g a)) k)) := by
  pointwise [Host.topK, Host.sort2]
  simp only [cmpfTotal_gt]
  simp only [along_row3]
  rfl

/-! ## The groups -/

theorem groupSums_apply (v : FVec Ideal S2048x8 .f32) (t : Fin 2048) (g : Fin 4) :
    groupSums v (ix2 t g) = pair (fun e => v (ix2 t e)) g := by
  unfold groupSums
  generalize hx : shapeCast S2048x4x2 v shapeCasts_S2048x8_S2048x4x2 = x
  have hv : ∀ a : Fin 2, x (ix3 t g a) = v (ix2 t ⟨g.val * 2 + a.val, by omega⟩) := fun a => by
    rw [← hx]; pointwise
  have hk := topK_pair x t g
  generalize (Host.topK S2048x4x2 2 (FloatOps.cmpfTotal .gt) x sliceFits_S2048x4x2_S2048x4x2).1 = y at hk ⊢
  pointwise
  simp only [hk]
  rw [sum_sortedFrom (fun a => x (ix3 t g a)), Fin.sum_univ_two, hv, hv, pair]
  congr 3 <;> exact Fin.ext (by simp only [lo, hi]; omega)

theorem groups_apply (gs : FVec Ideal S2048x4 .f32) (t : Fin 2048) {g1 g2 : Fin 4}
    (h1 : IsFirst (fun g => gs (ix2 t g)) g1) (h2 : IsSecond (fun g => gs (ix2 t g)) g1 g2) (k : Fin 2) :
    groups gs (ix2 t k) = BitVec.ofNat 32 (if k = 0 then g1 else g2).val := by
  unfold groups
  rw [topK_four, sortedFrom_first_two (by omega) h1 h2]

/-- A truth bit read as a number. -/
theorem uitofp_if (p : Prop) [Decidable p] :
    (FloatOps.uitofp .f32 (if p then 1#1 else 0#1) : Ideal .f32) = if p then 1 else 0 := by
  show (((if p then 1#1 else 0#1 : BitVec 1).toNat : ℝ) : EReal) = _
  by_cases h : p <;> simp [h]

/-- Comparing two small numbers as words. -/
theorem cmpi_eq_small {a b : Nat} (ha : a < 256) (hb : b < 256) :
    IntOp.cmpi CmpIPredicate.eq (BitVec.ofNat 32 a) (BitVec.ofNat 32 b) = if a = b then 1#1 else 0#1 := by
  have : (BitVec.ofNat 32 a = BitVec.ofNat 32 b) ↔ a = b := by
    rw [← BitVec.toNat_inj, BitVec.toNat_ofNat, BitVec.toNat_ofNat]; omega
  by_cases h : a = b
  · simp [IntOp.cmpi, h]
  · simp only [IntOp.cmpi, if_neg h]
    rw [beq_eq_false_iff_ne.mpr (fun e => h (this.mp e))]; rfl

theorem groupMask_apply (gi : IVec S2048x2 32) (t : Fin 2048) {g1 g2 : Fin 4}
    (hg : ∀ k, gi (ix2 t k) = BitVec.ofNat 32 (if k = 0 then g1 else g2).val) (g : Fin 4) :
    groupMask gi (ix2 t g) = (if g1 = g then 1 else 0) + (if g2 = g then 1 else 0) := by
  pointwise [groupMask]
  rw [Fin.sum_univ_two, hg, hg, cmpi_eq_small (by omega) (by omega), cmpi_eq_small (by omega) (by omega),
    uitofp_if, uitofp_if]
  simp only [Fin.ext_iff]
  rfl

theorem masked_apply (v : FVec Ideal S2048x8 .f32) (gm : FVec Ideal S2048x4 .f32) (t : Fin 2048) {g1 g2 : Fin 4}
    (hg : ∀ g, gm (ix2 t g) = (if g1 = g then 1 else 0) + (if g2 = g then 1 else 0)) (e : Fin 8) :
    masked v gm (ix2 t e) = kept (fun e => v (ix2 t e)) g1 g2 e := by
  pointwise [masked]
  have hgr : (⟨e.val / 2, by omega⟩ : Fin 4) = grp e := rfl
  rw [hgr, hg]
  have hbot : (id (constant S_ FTy.f32 4286578688#32) : FVec Ideal S_ .f32) ix0 = (⊥ : EReal) := ofBits_neg_inf
  rw [hbot]
  unfold kept
  refine if_congr ?_ rfl rfl
  by_cases h1 : g1 = grp e <;> by_cases h2 : g2 = grp e <;> simp [h1, h2, eq_comm] <;> norm_num

theorem experts_apply (x : FVec Ideal S2048x8 .f32) (t : Fin 2048) {e1 e2 : Fin 8}
    (h1 : IsFirst (fun e => x (ix2 t e)) e1) (h2 : IsSecond (fun e => x (ix2 t e)) e1 e2) (k : Fin 2) :
    experts x (ix2 t k) = BitVec.ofNat 32 (if k = 0 then e1 else e2).val := by
  unfold experts
  rw [topK_eight, sortedFrom_first_two (by omega) h1 h2]

/-! ## The weights -/

theorem column_apply (ei : IVec S2048x2 32) (t : Fin 2048) (k : Fin 2) (e : Fin 8)
    (h : ei (ix2 t k) = BitVec.ofNat 32 e.val) : column ei (ix3 t k 0) = BitVec.ofNat 32 e.val := by
  pointwise [column]
  rw [h]
  clear h
  revert e
  decide

theorem inRow_apply (ci : IVec S2048x2x1 32) (t : Fin 2048) (k : Fin 2) (e : Fin 8)
    (h : ci (ix3 t k 0) = BitVec.ofNat 32 e.val) : inRow ci (ix2 t k) = 1#1 := by
  pointwise [inRow]
  rw [Finset.univ_unique, Finset.fold_singleton]
  have : (default : Fin 1) = 0 := rfl
  rw [this, h]
  clear h
  revert e
  decide

/-- The row gather reads the named column. -/
theorem gather_apply (s : FVec Ideal S2048x8 .f32) (ci : IVec S2048x2x1 32) (t : Fin 2048) (k : Fin 2) (e : Fin 8)
    (h : ci (ix3 t k 0) = BitVec.ofNat 32 e.val) :
    Host.gather gather_S2048x8_S2048x2x1_S2048x2_n_1_0_0_1_2_11 s ci (ix2 t k) = s (ix2 t e) := by
  unfold Host.gather
  refine congrArg s (funext fun a => Fin.ext ?_)
  match a with
  | ⟨0, _⟩ =>
    show GatherDims.start gather_S2048x8_S2048x2x1_S2048x2_n_1_0_0_1_2_11 (ix2 t k) ci 0
      + GatherDims.batchCoord gather_S2048x8_S2048x2x1_S2048x2_n_1_0_0_1_2_11 (ix2 t k) 0
      + GatherDims.offCoord gather_S2048x8_S2048x2x1_S2048x2_n_1_0_0_1_2_11 (ix2 t k) 0 = t.val
    have h1 : GatherDims.start gather_S2048x8_S2048x2x1_S2048x2_n_1_0_0_1_2_11 (ix2 t k) ci 0 = 0 := rfl
    have h3 : GatherDims.offCoord gather_S2048x8_S2048x2x1_S2048x2_n_1_0_0_1_2_11 (ix2 t k) 0 = 0 := rfl
    have h2 : GatherDims.batchCoord gather_S2048x8_S2048x2x1_S2048x2_n_1_0_0_1_2_11 (ix2 t k) 0 = t.val := rfl
    omega
  | ⟨1, _⟩ =>
    have hsi : GatherDims.siIdx gather_S2048x8_S2048x2x1_S2048x2_n_1_0_0_1_2_11 (ix2 t k) ⟨0, by decide⟩ = ix3 t k 0 := by
      funext b
      match b with
      | ⟨0, _⟩ => rfl
      | ⟨1, _⟩ => rfl
      | ⟨2, _⟩ => rfl
    show min (ci (GatherDims.siIdx gather_S2048x8_S2048x2x1_S2048x2_n_1_0_0_1_2_11 (ix2 t k) ⟨0, by decide⟩)).toInt.toNat (8 - 1) + 0 + 0
      = e.val
    rw [hsi, h, toInt_small (by omega)]
    omega

theorem picked_apply (s : FVec Ideal S2048x8 .f32) (ei : IVec S2048x2 32) (t : Fin 2048) (k : Fin 2) (e : Fin 8)
    (h : ei (ix2 t k) = BitVec.ofNat 32 e.val) : picked s ei (ix2 t k) = s (ix2 t e) := by
  have hc := column_apply ei t k e h
  pointwise [picked]
  rw [inRow_apply _ t k e hc, gather_apply s _ t k e hc]
  rfl

theorem normed_apply (p : FVec Ideal S2048x2 .f32) (t : Fin 2048) (k : Fin 2) :
    normed p (ix2 t k) = Ideal.div (p (ix2 t k)) (p (ix2 t 0) + p (ix2 t 1) + eps) := by
  pointwise [normed]
  rw [Fin.sum_univ_two]
  rfl

theorem weights_apply (ei : IVec S2048x2 32) (n : FVec Ideal S2048x2 .f32) (t : Fin 2048) {e1 e2 : Fin 8}
    (hg : ∀ k, ei (ix2 t k) = BitVec.ofNat 32 (if k = 0 then e1 else e2).val) (e : Fin 8) :
    weights ei n (ix2 t e) = (if e1 = e then n (ix2 t 0) else 0) + (if e2 = e then n (ix2 t 1) else 0) := by
  pointwise [weights]
  rw [Fin.sum_univ_two, hg, hg, cmpi_eq_small (by omega) (by omega), cmpi_eq_small (by omega) (by omega),
    uitofp_if, uitofp_if]
  simp only [Fin.ext_iff, ite_mul, one_mul, zero_mul]
  rfl

/-- THE REFERENCE'S ROUTING: each entry of its weights is the routing's weight. -/
theorem routing_apply (s : FVec Ideal S2048x8 .f32) (b : FVec Ideal S8 .f32) (t : Fin 2048) {g1 g2 : Fin 4} {e1 e2 : Fin 8}
    (hR : Routed (fun e => s (ix2 t e) + b (ix1 e)) g1 g2 e1 e2) (e : Fin 8) :
    routing s b (ix2 t e) = weight (fun e => s (ix2 t e)) e1 e2 e := by
  have hc : (fun e => corrected s b (ix2 t e)) = fun e => s (ix2 t e) + b (ix1 e) := funext (corrected_apply s b t)
  have hgs : (fun g => groupSums (corrected s b) (ix2 t g)) = pair fun e => s (ix2 t e) + b (ix1 e) := by
    rw [← hc]; exact funext (groupSums_apply (corrected s b) t)
  have hgi := groups_apply (groupSums (corrected s b)) t (by rw [hgs]; exact hR.group1) (by rw [hgs]; exact hR.group2)
  have hgm := groupMask_apply _ t hgi
  have hm : (fun e => masked (corrected s b) (groupMask (groups (groupSums (corrected s b)))) (ix2 t e))
      = kept (fun e => s (ix2 t e) + b (ix1 e)) g1 g2 := by
    rw [← hc]; exact funext (masked_apply (corrected s b) _ t hgm)
  have hei := experts_apply (masked (corrected s b) (groupMask (groups (groupSums (corrected s b))))) t
    (by rw [hm]; exact hR.expert1) (by rw [hm]; exact hR.expert2)
  unfold routing
  rw [weights_apply _ _ t hei, normed_apply, normed_apply, picked_apply s _ t 0 e1 (hei 0), picked_apply s _ t 1 e2 (hei 1)]
  exact div_placed_eq_weight (fun e => s (ix2 t e)) hR.expert2.ne e

end Cert.ReferenceIdeal.Stages
-- ==== Proof.FfnReference.lean ====
/-
The reference's result over the extended reals, entry by entry: the experts' gated feed-forward outputs combined with the
routing's weights, plus the shared expert's output.
-/
module

public import proofs.«01_k».proof.Proof.RefStages
public import proofs.«01_k».proof.Proof.RouterReference
public import proofs.«01_k».proof.Proof.Gated

@[expose] public section

set_option maxRecDepth 16384

noncomputable section

namespace Cert.ReferenceIdeal.Stages

open Cert.ReferenceIdeal Cert.ReferenceIdeal.Gen
open Idealize.ShloMosaic
open Cert.Proof.Ffn Cert.Proof.Routing

theorem rows_apply (a : FVec Ideal S1x2048x1024 .f32) (t : Fin 2048) (k : Fin 1024) :
    rows a (ix2 t k) = a (ix3 0 t k) := by
  pointwise [rows]

/-- The experts' outputs at a token, summed under the token's weights. -/
theorem combine_apply (p : FVec Ideal S8x1024x2048 .f32) (w : FVec Ideal S2048x8 .f32) (t : Fin 2048) (h : Fin 1024) :
    combine p w (ix2 t h) = ∑ e, p (ix3 e h t) * w (ix2 t e) := by
  pointwise [combine]

/-- One expert's output. -/
theorem expertParts_apply (x : FVec Ideal S2048x1024 .f32) (wg wu : FVec Ideal S8x512x1024 .f32) (wd : FVec Ideal S8x1024x512 .f32)
    (e : Fin 8) (h : Fin 1024) (t : Fin 2048) :
    expertParts x wg wu wd (ix3 e h t)
      = ∑ f, wd (ix3 e h f) * gated (fun k => x (ix2 t k)) (fun k => wg (ix3 e f k)) (fun k => wu (ix3 e f k)) := by
  pointwise [expertParts]
  rfl

/-- The shared expert's output. -/
theorem shared_apply (x wg wu : FVec Ideal S2048x1024 .f32) (wd : FVec Ideal S1024x2048 .f32) (t : Fin 2048) (h : Fin 1024) :
    shared x wg wu wd (ix2 t h)
      = ∑ f, gated (fun k => x (ix2 t k)) (fun k => wg (ix2 f k)) (fun k => wu (ix2 f k)) * wd (ix2 h f) := by
  pointwise [shared]
  rfl

/-- The reference's result, entry by entry. -/
theorem result_apply (a0 : FVec Ideal S1x2048x1024 .f32) (a1 : FVec Ideal S8x1024 .f32) (a2 : FVec Ideal S8 .f32)
    (a3 a4 : FVec Ideal S8x512x1024 .f32) (a5 : FVec Ideal S8x1024x512 .f32) (a6 a7 : FVec Ideal S2048x1024 .f32)
    (a8 : FVec Ideal S1024x2048 .f32) (t : Fin 2048) (h : Fin 1024) :
    result a0 a1 a2 a3 a4 a5 a6 a7 a8 (ix3 0 t h)
      = (∑ e, (∑ f, a5 (ix3 e h f) * gated (fun k => a0 (ix3 0 t k)) (fun k => a3 (ix3 e f k)) (fun k => a4 (ix3 e f k)))
          * routing (scores (rows a0) a1) a2 (ix2 t e))
        + ∑ f, gated (fun k => a0 (ix3 0 t k)) (fun k => a6 (ix2 f k)) (fun k => a7 (ix2 f k)) * a8 (ix2 h f) := by
  unfold result
  have hc := combine_apply (expertParts (rows a0) a3 a4 a5) (routing (scores (rows a0) a1) a2) t h
  simp only [expertParts_apply, rows_apply] at hc
  have hs := shared_apply (rows a0) a6 a7 a8 t h
  simp only [rows_apply] at hs
  rw [← hc, ← hs]
  generalize combine (expertParts (rows a0) a3 a4 a5) (routing (scores (rows a0) a1) a2) = p
  generalize shared (rows a0) a6 a7 a8 = q
  pointwise

end Cert.ReferenceIdeal.Stages
-- ==== Proof.Value.lean ====
/-
The value claim: over the extended reals the kernel program and the reference leave the same result, where no expert's
correction bias is minus infinity.
-/
module

public import proofs.«01_k».proof.Defs
public import proofs.«01_k».proof.Proof.KernelValue
public import proofs.«01_k».proof.Proof.FfnReference
public import proofs.«01_k».proof.Proof.Gen.Pre_bias_above_neg_inf
public import Idealize.ShloMosaic.Lib.ReduceAll

@[expose] public section

set_option maxRecDepth 16384

noncomputable section

namespace Cert.Proof.Claims

open Idealize.ShloMosaic Idealize.ShloMosaic.TcCoe Idealize.SL.Sem
open Cert.Proof.Choice Cert.Proof.Routing

/-- The precondition read at an expert: its bias is above minus infinity. -/
theorem bias_above (m : (l : Loc Cert.KernelIdeal.nD Cert.KernelIdeal.τ Cert.KernelIdeal.sig) → Buf (Elt Ideal) l)
    (hpre : Cert.Pre_KernelIdeal_bias_above_neg_inf m) (c : Dev Cert.KernelIdeal.nD) (e : Fin 8) :
    (⊥ : EReal) < Cert.KernelIdeal.Run.bias m c (ix1 e) := by
  have h := congrFun (hpre c) (Shape.Idx.first (s := Cert.Pre_bias_above_neg_inf.S_) (by decide))
  dsimp only [Cert.Pre_bias_above_neg_inf.fn] at h
  haveI : Subsingleton Cert.Pre_bias_above_neg_inf.S_.Idx := ⟨fun a b => funext fun k => k.elim0⟩
  have := Host.reduce_andi_all _ _ _ _ _ h (ix1 e)
  pointwise at this
  rw [ofBits_neg_inf] at this
  by_contra hn
  rw [decide_eq_false hn] at this
  exact absurd this (by decide)

section Weights

variable (m : (l : Loc Cert.KernelIdeal.nD Cert.KernelIdeal.τ Cert.KernelIdeal.sig) → Buf (Elt Ideal) l)
  (hpre : Cert.Pre_KernelIdeal_bias_above_neg_inf m) (c : Dev Cert.KernelIdeal.nD)

open Cert.KernelIdeal Cert.KernelIdeal.Run in
include hpre in
/-- The kernel's router leaves the reference's routing weights, and each is a real number at least zero. -/
theorem weights_eq (t : Fin 2048) (e : Fin 8) :
    weights m c (ix2 t e) = Cert.ReferenceIdeal.Stages.routing (Cert.ReferenceIdeal.Stages.scores
        (Cert.ReferenceIdeal.Stages.rows (tokens m c)) (routerW m c)) (bias m c) (ix2 t e)
      ∧ IsScore (weights m c (ix2 t e)) := by
  have hx : ∀ e, E0 m c main_v8 (ix2 t e) = Cert.ReferenceIdeal.Stages.scores
      (Cert.ReferenceIdeal.Stages.rows (tokens m c)) (routerW m c) (ix2 t e) := fun e => by
    rw [scores_read, Cert.ReferenceIdeal.Stages.scores_apply]
    simp only [Cert.ReferenceIdeal.Stages.rows_apply]
  have hs : ∀ e, IsScore (E0 m c main_v8 (ix2 t e)) := fun e => by
    rw [scores_read]; exact isScore_logistic _
  have hv : ∀ e, ⊥ < corr (E0 m c main_v8) (E0 m c main_v9) t e := fun e => by
    have hb := bias_above m hpre c e
    rw [← bias_read] at hb
    exact (hs e).add_above hb
  obtain ⟨g1, g2, e1, e2, hR⟩ := exists_routed (corr (E0 m c main_v8) (E0 m c main_v9) t)
  have hw : weights m c (ix2 t e) = weight (fun e => E0 m c main_v8 (ix2 t e)) e1 e2 e :=
    (congrFun (router_final m c) (ix2 t e)).trans (routerOut_apply hR hv hs e)
  refine ⟨?_, hw ▸ weight_isScore hs e1 e2 e⟩
  have hc : corr (E0 m c main_v8) (E0 m c main_v9) t = fun e => Cert.ReferenceIdeal.Stages.scores
      (Cert.ReferenceIdeal.Stages.rows (tokens m c)) (routerW m c) (ix2 t e) + bias m c (ix1 e) := funext fun e => by
    rw [← hx e, ← bias_read m c e]; rfl
  rw [hw, Cert.ReferenceIdeal.Stages.routing_apply _ _ t (hc ▸ hR) e]
  exact congrArg (fun s => weight s e1 e2 e) (funext hx)

open Cert.KernelIdeal Cert.KernelIdeal.Gen Cert.KernelIdeal.Run in
include hpre in
/-- The kernel program's result is the reference's function of the arguments. -/
theorem result_eq :
    V5 m (outs m) c (Proc.devRef .tc main_v23) = Cert.ReferenceIdeal.Stages.result (tokens m c) (routerW m c) (bias m c)
      (gateW m c) (upW m c) (downW m c) (sharedGate m c) (sharedUp m c) (sharedDown m c) := by
  have key : ∀ (t : Fin 2048) (h : Fin 1024), V5 m (outs m) c (Proc.devRef .tc main_v23) (ix3 0 t h)
      = Cert.ReferenceIdeal.Stages.result (tokens m c) (routerW m c) (bias m c)
      (gateW m c) (upW m c) (downW m c) (sharedGate m c) (sharedUp m c) (sharedDown m c) (ix3 0 t h) := fun t h => by
    refine (result_apply m c (fun t e => (weights_eq m hpre c t e).2) t h).trans ?_
    rw [Cert.ReferenceIdeal.Stages.result_apply]
    refine congrArg (· + _) (Finset.sum_congr rfl fun e _ => ?_)
    rw [(weights_eq m hpre c t e).1]
  funext j
  have ej : j = ix3 0 (j 1) (j 2) := by blk_ext
  rw [ej]
  exact key (j 1) (j 2)

end Weights

/-- The kernel program and the reference, from the same arguments, leave the same result. -/
theorem algebraic : Cert.algebraic_KernelIdeal_ReferenceIdeal_pre_bias_above_neg_inf := by
  intro m ρ m' ρ' hpre hagree
  refine ⟨fun c => Cert.KernelIdeal.Gen.V5 m (Cert.KernelIdeal.Run.outs m) c (Proc.devRef .tc Cert.KernelIdeal.main_v23),
    (θ_run Cert.KernelIdeal.defs _ _).mono (fun _ h => h.1) (Cert.KernelIdeal.Run.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  refine (Cert.ReferenceIdeal.Stages.res_eq m' c).trans ?_
  rw [h0, h1, h2, h3, h4, h5, h6, h7, h8]
  exact (result_eq m hpre c).symm

end Cert.Proof.Claims
-- ==== Proof.lean ====
/- The proof of the certificate: the claims of Proof/Frames.lean and Proof/Value.lean put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_bias_above_neg_inf.Gen.facts,
    Claims.frame_kernel, Claims.frame_ideal, Claims.frame_ideal_pre, Claims.frame_reference, Claims.frame_reference_pre,
    Claims.preserves, Claims.algebraic⟩

end Cert.Proof

end
